-- ==== Defs.lean ====
def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvRefIdeal (m : (ℓ : Loc Cert.InConvRefIdeal.nD Cert.InConvRefIdeal.τ Cert.InConvRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_CtxQkv (m : (ℓ : Loc Cert.CtxQkv.nD Cert.CtxQkv.τ Cert.CtxQkv.sig) → Buf (Elt Bits) ℓ) : Prop :=
  True

def Pre_CtxQkvIdeal (m : (ℓ : Loc Cert.CtxQkvIdeal.nD Cert.CtxQkvIdeal.τ Cert.CtxQkvIdeal.sig) → Buf (Elt Ideal) ℓ) : Prop :=
  True

def Pre_CtxQkvRefIdeal (m : (ℓ : Loc Cert.CtxQkvRefIdeal.nD Cert.CtxQkvRefIdeal.τ Cert.CtxQkvRefIdeal.sig) → Buf (Elt Ideal) ℓ) : Prop :=
  True

def Pre_CtxAb (m : (ℓ : Loc Cert.CtxAb.nD Cert.CtxAb.τ Cert.CtxAb.sig) → Buf (Elt Bits) ℓ) : Prop :=
  True

def Pre_CtxAbIdeal (m : (ℓ : Loc Cert.CtxAbIdeal.nD Cert.CtxAbIdeal.τ Cert.CtxAbIdeal.sig) → Buf (Elt Ideal) ℓ) : Prop :=
  True

def Pre_CtxAbRefIdeal (m : (ℓ : Loc Cert.CtxAbRefIdeal.nD Cert.CtxAbRefIdeal.τ Cert.CtxAbRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_Mixout (m : (ℓ : Loc Cert.Mixout.nD Cert.Mixout.τ Cert.Mixout.sig) → Buf (Elt Bits) ℓ) : Prop :=
  True

def Pre_MixoutIdeal (m : (ℓ : Loc Cert.MixoutIdeal.nD Cert.MixoutIdeal.τ Cert.MixoutIdeal.sig) → Buf (Elt Ideal) ℓ) : Prop :=
  True

def Pre_MixoutRefIdeal (m : (ℓ : Loc Cert.MixoutRefIdeal.nD Cert.MixoutRefIdeal.τ Cert.MixoutRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_CtxNorm (m : (ℓ : Loc Cert.CtxNorm.nD Cert.CtxNorm.τ Cert.CtxNorm.sig) → Buf (Elt Bits) ℓ) : Prop :=
  True

def Pre_CtxNormIdeal (m : (ℓ : Loc Cert.CtxNormIdeal.nD Cert.CtxNormIdeal.τ Cert.CtxNormIdeal.sig) → Buf (Elt Ideal) ℓ) : Prop :=
  True

def Pre_CtxNormRefIdeal (m : (ℓ : Loc Cert.CtxNormRefIdeal.nD Cert.CtxNormRefIdeal.τ Cert.CtxNormRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1))
      ∧ r.2.sem = fun _ => 0)

def quiescent_InConvRefIdeal [hInConvRefIdeal : Cert.InConvRefIdeal.Facts] : Prop :=
  ∀ (m : (ℓ : Loc Cert.InConvRefIdeal.nD Cert.InConvRefIdeal.τ Cert.InConvRefIdeal.sig) → Buf (Elt Ideal) ℓ) (g : Dev Cert.InConvRefIdeal.nD → PrngReg), Pre_InConvRefIdeal m →
    θ_run (Cert.InConvRefIdeal.defs (F := Ideal)) (onTc (τ := Cert.InConvRefIdeal.τ) (Cert.InConvRefIdeal.main (F := Ideal))) ⟨m, fun _ => 0, g⟩ (fun r => (∀ c : Dev Cert.InConvRefIdeal.nD,
      r.2.mem ((c.tc : Thread Cert.InConvRefIdeal.nD Cert.InConvRefIdeal.τ).loc Cert.InConvRefIdeal.main_arg0) = m ((c.tc : Thread Cert.InConvRefIdeal.nD Cert.InConvRefIdeal.τ).loc Cert.InConvRefIdeal.main_arg0)
      ∧ r.2.mem ((c.tc : Thread Cert.InConvRefIdeal.nD Cert.InConvRefIdeal.τ).loc Cert.InConvRefIdeal.main_arg1) = m ((c.tc : Thread Cert.InConvRefIdeal.nD Cert.InConvRefIdeal.τ).loc Cert.InConvRefIdeal.main_arg1))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def quiescent_CtxQkv [hCtxQkv : Cert.CtxQkv.Facts] : Prop :=
  ∀ (m : (ℓ : Loc Cert.CtxQkv.nD Cert.CtxQkv.τ Cert.CtxQkv.sig) → Buf (Elt Bits) ℓ) (g : Dev Cert.CtxQkv.nD → PrngReg), Pre_CtxQkv m →
    θ_run (Cert.CtxQkv.defs (F := Bits)) (onTc (τ := Cert.CtxQkv.τ) (Cert.CtxQkv.main (F := Bits))) ⟨m, fun _ => 0, g⟩ (fun r => (∀ c : Dev Cert.CtxQkv.nD,
      r.2.mem ((c.tc : Thread Cert.CtxQkv.nD Cert.CtxQkv.τ).loc Cert.CtxQkv.main_arg0) = m ((c.tc : Thread Cert.CtxQkv.nD Cert.CtxQkv.τ).loc Cert.CtxQkv.main_arg0)
      ∧ r.2.mem ((c.tc : Thread Cert.CtxQkv.nD Cert.CtxQkv.τ).loc Cert.CtxQkv.main_arg1) = m ((c.tc : Thread Cert.CtxQkv.nD Cert.CtxQkv.τ).loc Cert.CtxQkv.main_arg1))
      ∧ r.2.sem = fun _ => 0)

def quiescent_CtxQkvIdeal [hCtxQkvIdeal : Cert.CtxQkvIdeal.Facts] : Prop :=
  ∀ (m : (ℓ : Loc Cert.CtxQkvIdeal.nD Cert.CtxQkvIdeal.τ Cert.CtxQkvIdeal.sig) → Buf (Elt Ideal) ℓ) (g : Dev Cert.CtxQkvIdeal.nD → PrngReg), Pre_CtxQkvIdeal m →
    θ_run (Cert.CtxQkvIdeal.defs (F := Ideal)) (onTc (τ := Cert.CtxQkvIdeal.τ) (Cert.CtxQkvIdeal.main (F := Ideal))) ⟨m, fun _ => 0, g⟩ (fun r => (∀ c : Dev Cert.CtxQkvIdeal.nD,
      r.2.mem ((c.tc : Thread Cert.CtxQkvIdeal.nD Cert.CtxQkvIdeal.τ).loc Cert.CtxQkvIdeal.main_arg0) = m ((c.tc : Thread Cert.CtxQkvIdeal.nD Cert.CtxQkvIdeal.τ).loc Cert.CtxQkvIdeal.main_arg0)
      ∧ r.2.mem ((c.tc : Thread Cert.CtxQkvIdeal.nD Cert.CtxQkvIdeal.τ).loc Cert.CtxQkvIdeal.main_arg1) = m ((c.tc : Thread Cert.CtxQkvIdeal.nD Cert.CtxQkvIdeal.τ).loc Cert.CtxQkvIdeal.main_arg1))
      ∧ r.2.sem = fun _ => 0)

def quiescent_CtxQkvRefIdeal [hCtxQkvRefIdeal : Cert.CtxQkvRefIdeal.Facts] : Prop :=
  ∀ (m : (ℓ : Loc Cert.CtxQkvRefIdeal.nD Cert.CtxQkvRefIdeal.τ Cert.CtxQkvRefIdeal.sig) → Buf (Elt Ideal) ℓ) (g : Dev Cert.CtxQkvRefIdeal.nD → PrngReg), Pre_CtxQkvRefIdeal m →
    θ_run (Cert.CtxQkvRefIdeal.defs (F := Ideal)) (onTc (τ := Cert.CtxQkvRefIdeal.τ) (Cert.CtxQkvRefIdeal.main (F := Ideal))) ⟨m, fun _ => 0, g⟩ (fun r => (∀ c : Dev Cert.CtxQkvRefIdeal.nD,
      r.2.mem ((c.tc : Thread Cert.CtxQkvRefIdeal.nD Cert.CtxQkvRefIdeal.τ).loc Cert.CtxQkvRefIdeal.main_arg0) = m ((c.tc : Thread Cert.CtxQkvRefIdeal.nD Cert.CtxQkvRefIdeal.τ).loc Cert.CtxQkvRefIdeal.main_arg0)
      ∧ r.2.mem ((c.tc : Thread Cert.CtxQkvRefIdeal.nD Cert.CtxQkvRefIdeal.τ).loc Cert.CtxQkvRefIdeal.main_arg1) = m ((c.tc : Thread Cert.CtxQkvRefIdeal.nD Cert.CtxQkvRefIdeal.τ).loc Cert.CtxQkvRefIdeal.main_arg1))
      ∧ r.2.sem = fun _ => 0)

def quiescent_CtxAb [hCtxAb : Cert.CtxAb.Facts] : Prop :=
  ∀ (m : (ℓ : Loc Cert.CtxAb.nD Cert.CtxAb.τ Cert.CtxAb.sig) → Buf (Elt Bits) ℓ) (g : Dev Cert.CtxAb.nD → PrngReg), Pre_CtxAb m →
    θ_run (Cert.CtxAb.defs (F := Bits)) (onTc (τ := Cert.CtxAb.τ) (Cert.CtxAb.main (F := Bits))) ⟨m, fun _ => 0, g⟩ (fun r => (∀ c : Dev Cert.CtxAb.nD,
      r.2.mem ((c.tc : Thread Cert.CtxAb.nD Cert.CtxAb.τ).loc Cert.CtxAb.main_arg0) = m ((c.tc : Thread Cert.CtxAb.nD Cert.CtxAb.τ).loc Cert.CtxAb.main_arg0)
      ∧ r.2.mem ((c.tc : Thread Cert.CtxAb.nD Cert.CtxAb.τ).loc Cert.CtxAb.main_arg1) = m ((c.tc : Thread Cert.CtxAb.nD Cert.CtxAb.τ).loc Cert.CtxAb.main_arg1))
      ∧ r.2.sem = fun _ => 0)

def quiescent_CtxAbIdeal [hCtxAbIdeal : Cert.CtxAbIdeal.Facts] : Prop :=
  ∀ (m : (ℓ : Loc Cert.CtxAbIdeal.nD Cert.CtxAbIdeal.τ Cert.CtxAbIdeal.sig) → Buf (Elt Ideal) ℓ) (g : Dev Cert.CtxAbIdeal.nD → PrngReg), Pre_CtxAbIdeal m →
    θ_run (Cert.CtxAbIdeal.defs (F := Ideal)) (onTc (τ := Cert.CtxAbIdeal.τ) (Cert.CtxAbIdeal.main (F := Ideal))) ⟨m, fun _ => 0, g⟩ (fun r => (∀ c : Dev Cert.CtxAbIdeal.nD,
      r.2.mem ((c.tc : Thread Cert.CtxAbIdeal.nD Cert.CtxAbIdeal.τ).loc Cert.CtxAbIdeal.main_arg0) = m ((c.tc : Thread Cert.CtxAbIdeal.nD Cert.CtxAbIdeal.τ).loc Cert.CtxAbIdeal.main_arg0)
      ∧ r.2.mem ((c.tc : Thread Cert.CtxAbIdeal.nD Cert.CtxAbIdeal.τ).loc Cert.CtxAbIdeal.main_arg1) = m ((c.tc : Thread Cert.CtxAbIdeal.nD Cert.CtxAbIdeal.τ).loc Cert.CtxAbIdeal.main_arg1))
      ∧ r.2.sem = fun _ => 0)

def quiescent_CtxAbRefIdeal [hCtxAbRefIdeal : Cert.CtxAbRefIdeal.Facts] : Prop :=
  ∀ (m : (ℓ : Loc Cert.CtxAbRefIdeal.nD Cert.CtxAbRefIdeal.τ Cert.CtxAbRefIdeal.sig) → Buf (Elt Ideal) ℓ) (g : Dev Cert.CtxAbRefIdeal.nD → PrngReg), Pre_CtxAbRefIdeal m →
    θ_run (Cert.CtxAbRefIdeal.defs (F := Ideal)) (onTc (τ := Cert.CtxAbRefIdeal.τ) (Cert.CtxAbRefIdeal.main (F := Ideal))) ⟨m, fun _ => 0, g⟩ (fun r => (∀ c : Dev Cert.CtxAbRefIdeal.nD,
      r.2.mem ((c.tc : Thread Cert.CtxAbRefIdeal.nD Cert.CtxAbRefIdeal.τ).loc Cert.CtxAbRefIdeal.main_arg0) = m ((c.tc : Thread Cert.CtxAbRefIdeal.nD Cert.CtxAbRefIdeal.τ).loc Cert.CtxAbRefIdeal.main_arg0)
      ∧ r.2.mem ((c.tc : Thread Cert.CtxAbRefIdeal.nD Cert.CtxAbRefIdeal.τ).loc Cert.CtxAbRefIdeal.main_arg1) = m ((c.tc : Thread Cert.CtxAbRefIdeal.nD Cert.CtxAbRefIdeal.τ).loc Cert.CtxAbRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_Mixout [hMixout : Cert.Mixout.Facts] : Prop :=
  ∀ (m : (ℓ : Loc Cert.Mixout.nD Cert.Mixout.τ Cert.Mixout.sig) → Buf (Elt Bits) ℓ) (g : Dev Cert.Mixout.nD → PrngReg), Pre_Mixout m →
    θ_run (Cert.Mixout.defs (F := Bits)) (onTc (τ := Cert.Mixout.τ) (Cert.Mixout.main (F := Bits))) ⟨m, fun _ => 0, g⟩ (fun r => (∀ c : Dev Cert.Mixout.nD,
      r.2.mem ((c.tc : Thread Cert.Mixout.nD Cert.Mixout.τ).loc Cert.Mixout.main_arg0) = m ((c.tc : Thread Cert.Mixout.nD Cert.Mixout.τ).loc Cert.Mixout.main_arg0)
      ∧ r.2.mem ((c.tc : Thread Cert.Mixout.nD Cert.Mixout.τ).loc Cert.Mixout.main_arg1) = m ((c.tc : Thread Cert.Mixout.nD Cert.Mixout.τ).loc Cert.Mixout.main_arg1)
      ∧ r.2.mem ((c.tc : Thread Cert.Mixout.nD Cert.Mixout.τ).loc Cert.Mixout.main_arg2) = m ((c.tc : Thread Cert.Mixout.nD Cert.Mixout.τ).loc Cert.Mixout.main_arg2)
      ∧ r.2.mem ((c.tc : Thread Cert.Mixout.nD Cert.Mixout.τ).loc Cert.Mixout.main_arg3) = m ((c.tc : Thread Cert.Mixout.nD Cert.Mixout.τ).loc Cert.Mixout.main_arg3)
      ∧ r.2.mem ((c.tc : Thread Cert.Mixout.nD Cert.Mixout.τ).loc Cert.Mixout.main_arg4) = m ((c.tc : Thread Cert.Mixout.nD Cert.Mixout.τ).loc Cert.Mixout.main_arg4)
      ∧ r.2.mem ((c.tc : Thread Cert.Mixout.nD Cert.Mixout.τ).loc Cert.Mixout.main_arg5) = m ((c.tc : Thread Cert.Mixout.nD Cert.Mixout.τ).loc Cert.Mixout.main_arg5))
      ∧ r.2.sem = fun _ => 0)

def quiescent_MixoutIdeal [hMixoutIdeal : Cert.MixoutIdeal.Facts] : Prop :=
  ∀ (m : (ℓ : Loc Cert.MixoutIdeal.nD Cert.MixoutIdeal.τ Cert.MixoutIdeal.sig) → Buf (Elt Ideal) ℓ) (g : Dev Cert.MixoutIdeal.nD → PrngReg), Pre_MixoutIdeal m →
    θ_run (Cert.MixoutIdeal.defs (F := Ideal)) (onTc (τ := Cert.MixoutIdeal.τ) (Cert.MixoutIdeal.main (F := Ideal))) ⟨m, fun _ => 0, g⟩ (fun r => (∀ c : Dev Cert.MixoutIdeal.nD,
      r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
      ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
      ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
      ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
      ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
      ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ r.2.sem = fun _ => 0)

def quiescent_MixoutRefIdeal [hMixoutRefIdeal : Cert.MixoutRefIdeal.Facts] : Prop :=
  ∀ (m : (ℓ : Loc Cert.MixoutRefIdeal.nD Cert.MixoutRefIdeal.τ Cert.MixoutRefIdeal.sig) → Buf (Elt Ideal) ℓ) (g : Dev Cert.MixoutRefIdeal.nD → PrngReg), Pre_MixoutRefIdeal m →
    θ_run (Cert.MixoutRefIdeal.defs (F := Ideal)) (onTc (τ := Cert.MixoutRefIdeal.τ) (Cert.MixoutRefIdeal.main (F := Ideal))) ⟨m, fun _ => 0, g⟩ (fun r => (∀ c : Dev Cert.MixoutRefIdeal.nD,
      r.2.mem ((c.tc : Thread Cert.MixoutRefIdeal.nD Cert.MixoutRefIdeal.τ).loc Cert.MixoutRefIdeal.main_arg0) = m ((c.tc : Thread Cert.MixoutRefIdeal.nD Cert.MixoutRefIdeal.τ).loc Cert.MixoutRefIdeal.main_arg0)
      ∧ r.2.mem ((c.tc : Thread Cert.MixoutRefIdeal.nD Cert.MixoutRefIdeal.τ).loc Cert.MixoutRefIdeal.main_arg1) = m ((c.tc : Thread Cert.MixoutRefIdeal.nD Cert.MixoutRefIdeal.τ).loc Cert.MixoutRefIdeal.main_arg1)
      ∧ r.2.mem ((c.tc : Thread Cert.MixoutRefIdeal.nD Cert.MixoutRefIdeal.τ).loc Cert.MixoutRefIdeal.main_arg2) = m ((c.tc : Thread Cert.MixoutRefIdeal.nD Cert.MixoutRefIdeal.τ).loc Cert.MixoutRefIdeal.main_arg2)
      ∧ r.2.mem ((c.tc : Thread Cert.MixoutRefIdeal.nD Cert.MixoutRefIdeal.τ).loc Cert.MixoutRefIdeal.main_arg3) = m ((c.tc : Thread Cert.MixoutRefIdeal.nD Cert.MixoutRefIdeal.τ).loc Cert.MixoutRefIdeal.main_arg3)
      ∧ r.2.mem ((c.tc : Thread Cert.MixoutRefIdeal.nD Cert.MixoutRefIdeal.τ).loc Cert.MixoutRefIdeal.main_arg4) = m ((c.tc : Thread Cert.MixoutRefIdeal.nD Cert.MixoutRefIdeal.τ).loc Cert.MixoutRefIdeal.main_arg4)
      ∧ r.2.mem ((c.tc : Thread Cert.MixoutRefIdeal.nD Cert.MixoutRefIdeal.τ).loc Cert.MixoutRefIdeal.main_arg5) = m ((c.tc : Thread Cert.MixoutRefIdeal.nD Cert.MixoutRefIdeal.τ).loc Cert.MixoutRefIdeal.main_arg5))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_CtxNorm [hCtxNorm : Cert.CtxNorm.Facts] : Prop :=
  ∀ (m : (ℓ : Loc Cert.CtxNorm.nD Cert.CtxNorm.τ Cert.CtxNorm.sig) → Buf (Elt Bits) ℓ) (g : Dev Cert.CtxNorm.nD → PrngReg), Pre_CtxNorm m →
    θ_run (Cert.CtxNorm.defs (F := Bits)) (onTc (τ := Cert.CtxNorm.τ) (Cert.CtxNorm.main (F := Bits))) ⟨m, fun _ => 0, g⟩ (fun r => (∀ c : Dev Cert.CtxNorm.nD,
      r.2.mem ((c.tc : Thread Cert.CtxNorm.nD Cert.CtxNorm.τ).loc Cert.CtxNorm.main_arg0) = m ((c.tc : Thread Cert.CtxNorm.nD Cert.CtxNorm.τ).loc Cert.CtxNorm.main_arg0)
      ∧ r.2.mem ((c.tc : Thread Cert.CtxNorm.nD Cert.CtxNorm.τ).loc Cert.CtxNorm.main_arg1) = m ((c.tc : Thread Cert.CtxNorm.nD Cert.CtxNorm.τ).loc Cert.CtxNorm.main_arg1)
      ∧ r.2.mem ((c.tc : Thread Cert.CtxNorm.nD Cert.CtxNorm.τ).loc Cert.CtxNorm.main_arg2) = m ((c.tc : Thread Cert.CtxNorm.nD Cert.CtxNorm.τ).loc Cert.CtxNorm.main_arg2))
      ∧ r.2.sem = fun _ => 0)

def quiescent_CtxNormIdeal [hCtxNormIdeal : Cert.CtxNormIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg), Pre_CtxNormIdeal m →
    θ_run (Cert.CtxNormIdeal.defs (F := Ideal)) (onTc (τ := Cert.CtxNormIdeal.τ) (Cert.CtxNormIdeal.main (F := Ideal))) ⟨m, fun _ => 0, g⟩ (fun r => (∀ c : Dev Cert.CtxNormIdeal.nD,
      r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
      ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
      ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2))
      ∧ r.2.sem = fun _ => 0)

def quiescent_CtxNormRefIdeal [hCtxNormRefIdeal : Cert.CtxNormRefIdeal.Facts] : Prop :=
  ∀ (m : (ℓ : Loc Cert.CtxNormRefIdeal.nD Cert.CtxNormRefIdeal.τ Cert.CtxNormRefIdeal.sig) → Buf (Elt Ideal) ℓ) (g : Dev Cert.CtxNormRefIdeal.nD → PrngReg), Pre_CtxNormRefIdeal m →
    θ_run (Cert.CtxNormRefIdeal.defs (F := Ideal)) (onTc (τ := Cert.CtxNormRefIdeal.τ) (Cert.CtxNormRefIdeal.main (F := Ideal))) ⟨m, fun _ => 0, g⟩ (fun r => (∀ c : Dev Cert.CtxNormRefIdeal.nD,
      r.2.mem ((c.tc : Thread Cert.CtxNormRefIdeal.nD Cert.CtxNormRefIdeal.τ).loc Cert.CtxNormRefIdeal.main_arg0) = m ((c.tc : Thread Cert.CtxNormRefIdeal.nD Cert.CtxNormRefIdeal.τ).loc Cert.CtxNormRefIdeal.main_arg0)
      ∧ r.2.mem ((c.tc : Thread Cert.CtxNormRefIdeal.nD Cert.CtxNormRefIdeal.τ).loc Cert.CtxNormRefIdeal.main_arg1) = m ((c.tc : Thread Cert.CtxNormRefIdeal.nD Cert.CtxNormRefIdeal.τ).loc Cert.CtxNormRefIdeal.main_arg1)
      ∧ r.2.mem ((c.tc : Thread Cert.CtxNormRefIdeal.nD Cert.CtxNormRefIdeal.τ).loc Cert.CtxNormRefIdeal.main_arg2) = m ((c.tc : Thread Cert.CtxNormRefIdeal.nD Cert.CtxNormRefIdeal.τ).loc Cert.CtxNormRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8))
      ∧ r.2.sem = fun _ => 0)

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v3)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v3) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v4) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)) →
    ∃ (v0 : (c : Dev Cert.InAbIdeal.nD) → Buf (Elt Ideal) ((c.tc : Thread Cert.InAbIdeal.nD Cert.InAbIdeal.τ).loc Cert.InAbIdeal.main_v3)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v3) = v0 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v3) = v0 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v3)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v3) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v4) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InConv_InConvIdeal : Prop :=
  True

def algebraic_InConvIdeal_InConvRefIdeal [hInConvIdeal : Cert.InConvIdeal.Facts] [hInConvRefIdeal : Cert.InConvRefIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvRefIdeal.nD Cert.InConvRefIdeal.τ Cert.InConvRefIdeal.sig) → Buf (Elt Ideal) ℓ) (g' : Dev Cert.InConvRefIdeal.nD → PrngReg), Pre_InConvIdeal m →
    (∀ c : Dev Cert.InConvIdeal.nD,
      m' ((c.tc : Thread Cert.InConvRefIdeal.nD Cert.InConvRefIdeal.τ).loc Cert.InConvRefIdeal.main_arg0) = m ((c.tc : Thread Cert.InConvIdeal.nD Cert.InConvIdeal.τ).loc Cert.InConvIdeal.main_arg0)
      ∧ m' ((c.tc : Thread Cert.InConvRefIdeal.nD Cert.InConvRefIdeal.τ).loc Cert.InConvRefIdeal.main_arg1) = m ((c.tc : Thread Cert.InConvIdeal.nD Cert.InConvIdeal.τ).loc Cert.InConvIdeal.main_arg1)) →
    ∃ (v0 : (c : Dev Cert.InConvIdeal.nD) → Buf (Elt Ideal) ((c.tc : Thread Cert.InConvIdeal.nD Cert.InConvIdeal.τ).loc Cert.InConvIdeal.main_v3)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v3) = v0 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1))
      ∧ θ_run (Cert.InConvRefIdeal.defs (F := Ideal)) (onTc (τ := Cert.InConvRefIdeal.τ) (Cert.InConvRefIdeal.main (F := Ideal))) ⟨m', fun _ => 0, g'⟩ (fun r => ∀ c : Dev Cert.InConvRefIdeal.nD,
          r.2.mem ((c.tc : Thread Cert.InConvRefIdeal.nD Cert.InConvRefIdeal.τ).loc Cert.InConvRefIdeal.main_v4) = v0 c
          ∧ r.2.mem ((c.tc : Thread Cert.InConvRefIdeal.nD Cert.InConvRefIdeal.τ).loc Cert.InConvRefIdeal.main_arg0) = m' ((c.tc : Thread Cert.InConvRefIdeal.nD Cert.InConvRefIdeal.τ).loc Cert.InConvRefIdeal.main_arg0)
          ∧ r.2.mem ((c.tc : Thread Cert.InConvRefIdeal.nD Cert.InConvRefIdeal.τ).loc Cert.InConvRefIdeal.main_arg1) = m' ((c.tc : Thread Cert.InConvRefIdeal.nD Cert.InConvRefIdeal.τ).loc Cert.InConvRefIdeal.main_arg1))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v3)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v3) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v4) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def preserves_CtxQkv_CtxQkvIdeal : Prop :=
  True

def algebraic_CtxQkvIdeal_CtxQkvRefIdeal [hCtxQkvIdeal : Cert.CtxQkvIdeal.Facts] [hCtxQkvRefIdeal : Cert.CtxQkvRefIdeal.Facts] : Prop :=
  ∀ (m : (ℓ : Loc Cert.CtxQkvIdeal.nD Cert.CtxQkvIdeal.τ Cert.CtxQkvIdeal.sig) → Buf (Elt Ideal) ℓ) (g : Dev Cert.CtxQkvIdeal.nD → PrngReg)
    (m' : (ℓ : Loc Cert.CtxQkvRefIdeal.nD Cert.CtxQkvRefIdeal.τ Cert.CtxQkvRefIdeal.sig) → Buf (Elt Ideal) ℓ) (g' : Dev Cert.CtxQkvRefIdeal.nD → PrngReg), Pre_CtxQkvIdeal m →
    (∀ c : Dev Cert.CtxQkvIdeal.nD,
      m' ((c.tc : Thread Cert.CtxQkvRefIdeal.nD Cert.CtxQkvRefIdeal.τ).loc Cert.CtxQkvRefIdeal.main_arg0) = m ((c.tc : Thread Cert.CtxQkvIdeal.nD Cert.CtxQkvIdeal.τ).loc Cert.CtxQkvIdeal.main_arg0)
      ∧ m' ((c.tc : Thread Cert.CtxQkvRefIdeal.nD Cert.CtxQkvRefIdeal.τ).loc Cert.CtxQkvRefIdeal.main_arg1) = m ((c.tc : Thread Cert.CtxQkvIdeal.nD Cert.CtxQkvIdeal.τ).loc Cert.CtxQkvIdeal.main_arg1)) →
    ∃ (v0 : (c : Dev Cert.CtxQkvIdeal.nD) → Buf (Elt Ideal) ((c.tc : Thread Cert.CtxQkvIdeal.nD Cert.CtxQkvIdeal.τ).loc Cert.CtxQkvIdeal.main_v3)),
      θ_run (Cert.CtxQkvIdeal.defs (F := Ideal)) (onTc (τ := Cert.CtxQkvIdeal.τ) (Cert.CtxQkvIdeal.main (F := Ideal))) ⟨m, fun _ => 0, g⟩ (fun r => ∀ c : Dev Cert.CtxQkvIdeal.nD,
          r.2.mem ((c.tc : Thread Cert.CtxQkvIdeal.nD Cert.CtxQkvIdeal.τ).loc Cert.CtxQkvIdeal.main_v3) = v0 c
          ∧ r.2.mem ((c.tc : Thread Cert.CtxQkvIdeal.nD Cert.CtxQkvIdeal.τ).loc Cert.CtxQkvIdeal.main_arg0) = m ((c.tc : Thread Cert.CtxQkvIdeal.nD Cert.CtxQkvIdeal.τ).loc Cert.CtxQkvIdeal.main_arg0)
          ∧ r.2.mem ((c.tc : Thread Cert.CtxQkvIdeal.nD Cert.CtxQkvIdeal.τ).loc Cert.CtxQkvIdeal.main_arg1) = m ((c.tc : Thread Cert.CtxQkvIdeal.nD Cert.CtxQkvIdeal.τ).loc Cert.CtxQkvIdeal.main_arg1))
      ∧ θ_run (Cert.CtxQkvRefIdeal.defs (F := Ideal)) (onTc (τ := Cert.CtxQkvRefIdeal.τ) (Cert.CtxQkvRefIdeal.main (F := Ideal))) ⟨m', fun _ => 0, g'⟩ (fun r => ∀ c : Dev Cert.CtxQkvRefIdeal.nD,
          r.2.mem ((c.tc : Thread Cert.CtxQkvRefIdeal.nD Cert.CtxQkvRefIdeal.τ).loc Cert.CtxQkvRefIdeal.main_v5) = v0 c
          ∧ r.2.mem ((c.tc : Thread Cert.CtxQkvRefIdeal.nD Cert.CtxQkvRefIdeal.τ).loc Cert.CtxQkvRefIdeal.main_arg0) = m' ((c.tc : Thread Cert.CtxQkvRefIdeal.nD Cert.CtxQkvRefIdeal.τ).loc Cert.CtxQkvRefIdeal.main_arg0)
          ∧ r.2.mem ((c.tc : Thread Cert.CtxQkvRefIdeal.nD Cert.CtxQkvRefIdeal.τ).loc Cert.CtxQkvRefIdeal.main_arg1) = m' ((c.tc : Thread Cert.CtxQkvRefIdeal.nD Cert.CtxQkvRefIdeal.τ).loc Cert.CtxQkvRefIdeal.main_arg1))

def preserves_CtxAb_CtxAbIdeal : Prop :=
  True

def algebraic_CtxAbIdeal_CtxAbRefIdeal [hCtxAbIdeal : Cert.CtxAbIdeal.Facts] [hCtxAbRefIdeal : Cert.CtxAbRefIdeal.Facts] : Prop :=
  ∀ (m : (ℓ : Loc Cert.CtxAbIdeal.nD Cert.CtxAbIdeal.τ Cert.CtxAbIdeal.sig) → Buf (Elt Ideal) ℓ) (g : Dev Cert.CtxAbIdeal.nD → PrngReg)
    (m' : (ℓ : Loc Cert.CtxAbRefIdeal.nD Cert.CtxAbRefIdeal.τ Cert.CtxAbRefIdeal.sig) → Buf (Elt Ideal) ℓ) (g' : Dev Cert.CtxAbRefIdeal.nD → PrngReg), Pre_CtxAbIdeal m →
    (∀ c : Dev Cert.CtxAbIdeal.nD,
      m' ((c.tc : Thread Cert.CtxAbRefIdeal.nD Cert.CtxAbRefIdeal.τ).loc Cert.CtxAbRefIdeal.main_arg0) = m ((c.tc : Thread Cert.CtxAbIdeal.nD Cert.CtxAbIdeal.τ).loc Cert.CtxAbIdeal.main_arg0)
      ∧ m' ((c.tc : Thread Cert.CtxAbRefIdeal.nD Cert.CtxAbRefIdeal.τ).loc Cert.CtxAbRefIdeal.main_arg1) = m ((c.tc : Thread Cert.CtxAbIdeal.nD Cert.CtxAbIdeal.τ).loc Cert.CtxAbIdeal.main_arg1)) →
    ∃ (v0 : (c : Dev Cert.CtxAbIdeal.nD) → Buf (Elt Ideal) ((c.tc : Thread Cert.CtxAbIdeal.nD Cert.CtxAbIdeal.τ).loc Cert.CtxAbIdeal.main_v3)),
      θ_run (Cert.CtxAbIdeal.defs (F := Ideal)) (onTc (τ := Cert.CtxAbIdeal.τ) (Cert.CtxAbIdeal.main (F := Ideal))) ⟨m, fun _ => 0, g⟩ (fun r => ∀ c : Dev Cert.CtxAbIdeal.nD,
          r.2.mem ((c.tc : Thread Cert.CtxAbIdeal.nD Cert.CtxAbIdeal.τ).loc Cert.CtxAbIdeal.main_v3) = v0 c
          ∧ r.2.mem ((c.tc : Thread Cert.CtxAbIdeal.nD Cert.CtxAbIdeal.τ).loc Cert.CtxAbIdeal.main_arg0) = m ((c.tc : Thread Cert.CtxAbIdeal.nD Cert.CtxAbIdeal.τ).loc Cert.CtxAbIdeal.main_arg0)
          ∧ r.2.mem ((c.tc : Thread Cert.CtxAbIdeal.nD Cert.CtxAbIdeal.τ).loc Cert.CtxAbIdeal.main_arg1) = m ((c.tc : Thread Cert.CtxAbIdeal.nD Cert.CtxAbIdeal.τ).loc Cert.CtxAbIdeal.main_arg1))
      ∧ θ_run (Cert.CtxAbRefIdeal.defs (F := Ideal)) (onTc (τ := Cert.CtxAbRefIdeal.τ) (Cert.CtxAbRefIdeal.main (F := Ideal))) ⟨m', fun _ => 0, g'⟩ (fun r => ∀ c : Dev Cert.CtxAbRefIdeal.nD,
          r.2.mem ((c.tc : Thread Cert.CtxAbRefIdeal.nD Cert.CtxAbRefIdeal.τ).loc Cert.CtxAbRefIdeal.main_v4) = v0 c
          ∧ r.2.mem ((c.tc : Thread Cert.CtxAbRefIdeal.nD Cert.CtxAbRefIdeal.τ).loc Cert.CtxAbRefIdeal.main_arg0) = m' ((c.tc : Thread Cert.CtxAbRefIdeal.nD Cert.CtxAbRefIdeal.τ).loc Cert.CtxAbRefIdeal.main_arg0)
          ∧ r.2.mem ((c.tc : Thread Cert.CtxAbRefIdeal.nD Cert.CtxAbRefIdeal.τ).loc Cert.CtxAbRefIdeal.main_arg1) = m' ((c.tc : Thread Cert.CtxAbRefIdeal.nD Cert.CtxAbRefIdeal.τ).loc Cert.CtxAbRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v3) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v2)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v2) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v3) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_Mixout_MixoutIdeal : Prop :=
  True

def algebraic_MixoutIdeal_MixoutRefIdeal [hMixoutIdeal : Cert.MixoutIdeal.Facts] [hMixoutRefIdeal : Cert.MixoutRefIdeal.Facts] : Prop :=
  ∀ (m : (ℓ : Loc Cert.MixoutIdeal.nD Cert.MixoutIdeal.τ Cert.MixoutIdeal.sig) → Buf (Elt Ideal) ℓ) (g : Dev Cert.MixoutIdeal.nD → PrngReg)
    (m' : (ℓ : Loc Cert.MixoutRefIdeal.nD Cert.MixoutRefIdeal.τ Cert.MixoutRefIdeal.sig) → Buf (Elt Ideal) ℓ) (g' : Dev Cert.MixoutRefIdeal.nD → PrngReg), Pre_MixoutIdeal m →
    (∀ c : Dev Cert.MixoutIdeal.nD,
      m' ((c.tc : Thread Cert.MixoutRefIdeal.nD Cert.MixoutRefIdeal.τ).loc Cert.MixoutRefIdeal.main_arg0) = m ((c.tc : Thread Cert.MixoutIdeal.nD Cert.MixoutIdeal.τ).loc Cert.MixoutIdeal.main_arg0)
      ∧ m' ((c.tc : Thread Cert.MixoutRefIdeal.nD Cert.MixoutRefIdeal.τ).loc Cert.MixoutRefIdeal.main_arg1) = m ((c.tc : Thread Cert.MixoutIdeal.nD Cert.MixoutIdeal.τ).loc Cert.MixoutIdeal.main_arg1)
      ∧ m' ((c.tc : Thread Cert.MixoutRefIdeal.nD Cert.MixoutRefIdeal.τ).loc Cert.MixoutRefIdeal.main_arg2) = m ((c.tc : Thread Cert.MixoutIdeal.nD Cert.MixoutIdeal.τ).loc Cert.MixoutIdeal.main_arg2)
      ∧ m' ((c.tc : Thread Cert.MixoutRefIdeal.nD Cert.MixoutRefIdeal.τ).loc Cert.MixoutRefIdeal.main_arg3) = m ((c.tc : Thread Cert.MixoutIdeal.nD Cert.MixoutIdeal.τ).loc Cert.MixoutIdeal.main_arg3)
      ∧ m' ((c.tc : Thread Cert.MixoutRefIdeal.nD Cert.MixoutRefIdeal.τ).loc Cert.MixoutRefIdeal.main_arg4) = m ((c.tc : Thread Cert.MixoutIdeal.nD Cert.MixoutIdeal.τ).loc Cert.MixoutIdeal.main_arg4)
      ∧ m' ((c.tc : Thread Cert.MixoutRefIdeal.nD Cert.MixoutRefIdeal.τ).loc Cert.MixoutRefIdeal.main_arg5) = m ((c.tc : Thread Cert.MixoutIdeal.nD Cert.MixoutIdeal.τ).loc Cert.MixoutIdeal.main_arg5)) →
    ∃ (v0 : (c : Dev Cert.MixoutIdeal.nD) → Buf (Elt Ideal) ((c.tc : Thread Cert.MixoutIdeal.nD Cert.MixoutIdeal.τ).loc Cert.MixoutIdeal.main_v2)),
      θ_run (Cert.MixoutIdeal.defs (F := Ideal)) (onTc (τ := Cert.MixoutIdeal.τ) (Cert.MixoutIdeal.main (F := Ideal))) ⟨m, fun _ => 0, g⟩ (fun r => ∀ c : Dev Cert.MixoutIdeal.nD,
          r.2.mem ((c.tc : Thread Cert.MixoutIdeal.nD Cert.MixoutIdeal.τ).loc Cert.MixoutIdeal.main_v2) = v0 c
          ∧ r.2.mem ((c.tc : Thread Cert.MixoutIdeal.nD Cert.MixoutIdeal.τ).loc Cert.MixoutIdeal.main_arg0) = m ((c.tc : Thread Cert.MixoutIdeal.nD Cert.MixoutIdeal.τ).loc Cert.MixoutIdeal.main_arg0)
          ∧ r.2.mem ((c.tc : Thread Cert.MixoutIdeal.nD Cert.MixoutIdeal.τ).loc Cert.MixoutIdeal.main_arg1) = m ((c.tc : Thread Cert.MixoutIdeal.nD Cert.MixoutIdeal.τ).loc Cert.MixoutIdeal.main_arg1)
          ∧ r.2.mem ((c.tc : Thread Cert.MixoutIdeal.nD Cert.MixoutIdeal.τ).loc Cert.MixoutIdeal.main_arg2) = m ((c.tc : Thread Cert.MixoutIdeal.nD Cert.MixoutIdeal.τ).loc Cert.MixoutIdeal.main_arg2)
          ∧ r.2.mem ((c.tc : Thread Cert.MixoutIdeal.nD Cert.MixoutIdeal.τ).loc Cert.MixoutIdeal.main_arg3) = m ((c.tc : Thread Cert.MixoutIdeal.nD Cert.MixoutIdeal.τ).loc Cert.MixoutIdeal.main_arg3)
          ∧ r.2.mem ((c.tc : Thread Cert.MixoutIdeal.nD Cert.MixoutIdeal.τ).loc Cert.MixoutIdeal.main_arg4) = m ((c.tc : Thread Cert.MixoutIdeal.nD Cert.MixoutIdeal.τ).loc Cert.MixoutIdeal.main_arg4)
          ∧ r.2.mem ((c.tc : Thread Cert.MixoutIdeal.nD Cert.MixoutIdeal.τ).loc Cert.MixoutIdeal.main_arg5) = m ((c.tc : Thread Cert.MixoutIdeal.nD Cert.MixoutIdeal.τ).loc Cert.MixoutIdeal.main_arg5))
      ∧ θ_run (Cert.MixoutRefIdeal.defs (F := Ideal)) (onTc (τ := Cert.MixoutRefIdeal.τ) (Cert.MixoutRefIdeal.main (F := Ideal))) ⟨m', fun _ => 0, g'⟩ (fun r => ∀ c : Dev Cert.MixoutRefIdeal.nD,
          r.2.mem ((c.tc : Thread Cert.MixoutRefIdeal.nD Cert.MixoutRefIdeal.τ).loc Cert.MixoutRefIdeal.main_v27) = v0 c
          ∧ r.2.mem ((c.tc : Thread Cert.MixoutRefIdeal.nD Cert.MixoutRefIdeal.τ).loc Cert.MixoutRefIdeal.main_arg0) = m' ((c.tc : Thread Cert.MixoutRefIdeal.nD Cert.MixoutRefIdeal.τ).loc Cert.MixoutRefIdeal.main_arg0)
          ∧ r.2.mem ((c.tc : Thread Cert.MixoutRefIdeal.nD Cert.MixoutRefIdeal.τ).loc Cert.MixoutRefIdeal.main_arg1) = m' ((c.tc : Thread Cert.MixoutRefIdeal.nD Cert.MixoutRefIdeal.τ).loc Cert.MixoutRefIdeal.main_arg1)
          ∧ r.2.mem ((c.tc : Thread Cert.MixoutRefIdeal.nD Cert.MixoutRefIdeal.τ).loc Cert.MixoutRefIdeal.main_arg2) = m' ((c.tc : Thread Cert.MixoutRefIdeal.nD Cert.MixoutRefIdeal.τ).loc Cert.MixoutRefIdeal.main_arg2)
          ∧ r.2.mem ((c.tc : Thread Cert.MixoutRefIdeal.nD Cert.MixoutRefIdeal.τ).loc Cert.MixoutRefIdeal.main_arg3) = m' ((c.tc : Thread Cert.MixoutRefIdeal.nD Cert.MixoutRefIdeal.τ).loc Cert.MixoutRefIdeal.main_arg3)
          ∧ r.2.mem ((c.tc : Thread Cert.MixoutRefIdeal.nD Cert.MixoutRefIdeal.τ).loc Cert.MixoutRefIdeal.main_arg4) = m' ((c.tc : Thread Cert.MixoutRefIdeal.nD Cert.MixoutRefIdeal.τ).loc Cert.MixoutRefIdeal.main_arg4)
          ∧ r.2.mem ((c.tc : Thread Cert.MixoutRefIdeal.nD Cert.MixoutRefIdeal.τ).loc Cert.MixoutRefIdeal.main_arg5) = m' ((c.tc : Thread Cert.MixoutRefIdeal.nD Cert.MixoutRefIdeal.τ).loc Cert.MixoutRefIdeal.main_arg5))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)) →
    ∃ (v0 : (c : Dev Cert.SharedIdeal.nD) → Buf (Elt Ideal) ((c.tc : Thread Cert.SharedIdeal.nD Cert.SharedIdeal.τ).loc Cert.SharedIdeal.main_v6)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v6) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v14) = v0 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v12) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v26) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_CtxNorm_CtxNormIdeal : Prop :=
  True

def algebraic_CtxNormIdeal_CtxNormRefIdeal [hCtxNormIdeal : Cert.CtxNormIdeal.Facts] [hCtxNormRefIdeal : Cert.CtxNormRefIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg)
    (m' : (ℓ : Loc Cert.CtxNormRefIdeal.nD Cert.CtxNormRefIdeal.τ Cert.CtxNormRefIdeal.sig) → Buf (Elt Ideal) ℓ) (g' : Dev Cert.CtxNormRefIdeal.nD → PrngReg), Pre_CtxNormIdeal m →
    (∀ c : Dev Cert.CtxNormIdeal.nD,
      m' ((c.tc : Thread Cert.CtxNormRefIdeal.nD Cert.CtxNormRefIdeal.τ).loc Cert.CtxNormRefIdeal.main_arg0) = m ((c.tc : Thread Cert.CtxNormIdeal.nD Cert.CtxNormIdeal.τ).loc Cert.CtxNormIdeal.main_arg0)
      ∧ m' ((c.tc : Thread Cert.CtxNormRefIdeal.nD Cert.CtxNormRefIdeal.τ).loc Cert.CtxNormRefIdeal.main_arg1) = m ((c.tc : Thread Cert.CtxNormIdeal.nD Cert.CtxNormIdeal.τ).loc Cert.CtxNormIdeal.main_arg1)
      ∧ m' ((c.tc : Thread Cert.CtxNormRefIdeal.nD Cert.CtxNormRefIdeal.τ).loc Cert.CtxNormRefIdeal.main_arg2) = m ((c.tc : Thread Cert.CtxNormIdeal.nD Cert.CtxNormIdeal.τ).loc Cert.CtxNormIdeal.main_arg2)) →
    ∃ (v0 : (c : Dev Cert.CtxNormIdeal.nD) → Buf (Elt Ideal) ((c.tc : Thread Cert.CtxNormIdeal.nD Cert.CtxNormIdeal.τ).loc Cert.CtxNormIdeal.main_v0)),
      θ_run (Cert.CtxNormIdeal.defs (F := Ideal)) (onTc (τ := Cert.CtxNormIdeal.τ) (Cert.CtxNormIdeal.main (F := Ideal))) ⟨m, fun _ => 0, g⟩ (fun r => ∀ c : Dev Cert.CtxNormIdeal.nD,
          r.2.mem ((c.tc : Thread Cert.CtxNormIdeal.nD Cert.CtxNormIdeal.τ).loc Cert.CtxNormIdeal.main_v0) = v0 c
          ∧ r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
          ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
          ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2))
      ∧ θ_run (Cert.CtxNormRefIdeal.defs (F := Ideal)) (onTc (τ := Cert.CtxNormRefIdeal.τ) (Cert.CtxNormRefIdeal.main (F := Ideal))) ⟨m', fun _ => 0, g'⟩ (fun r => ∀ c : Dev Cert.CtxNormRefIdeal.nD,
          r.2.mem ((c.tc : Thread Cert.CtxNormRefIdeal.nD Cert.CtxNormRefIdeal.τ).loc Cert.CtxNormRefIdeal.main_v26) = v0 c
          ∧ r.2.mem ((c.tc : Thread Cert.CtxNormRefIdeal.nD Cert.CtxNormRefIdeal.τ).loc Cert.CtxNormRefIdeal.main_arg0) = m' ((c.tc : Thread Cert.CtxNormRefIdeal.nD Cert.CtxNormRefIdeal.τ).loc Cert.CtxNormRefIdeal.main_arg0)
          ∧ r.2.mem ((c.tc : Thread Cert.CtxNormRefIdeal.nD Cert.CtxNormRefIdeal.τ).loc Cert.CtxNormRefIdeal.main_arg1) = m' ((c.tc : Thread Cert.CtxNormRefIdeal.nD Cert.CtxNormRefIdeal.τ).loc Cert.CtxNormRefIdeal.main_arg1)
          ∧ r.2.mem ((c.tc : Thread Cert.CtxNormRefIdeal.nD Cert.CtxNormRefIdeal.τ).loc Cert.CtxNormRefIdeal.main_arg2) = m' ((c.tc : Thread Cert.CtxNormRefIdeal.nD Cert.CtxNormRefIdeal.τ).loc Cert.CtxNormRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v34) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Gdn_GdnIdeal : Prop :=
  True

def Claim : Prop :=
  ∃ (hInQkv : Cert.InQkv.Facts) (hInQkvIdeal : Cert.InQkvIdeal.Facts) (hInQkvRefIdeal : Cert.InQkvRefIdeal.Facts) (hInAb : Cert.InAb.Facts) (hInAbIdeal : Cert.InAbIdeal.Facts) (hInAbRefIdeal : Cert.InAbRefIdeal.Facts) (hInZ : Cert.InZ.Facts) (hInZIdeal : Cert.InZIdeal.Facts) (hInZRefIdeal : Cert.InZRefIdeal.Facts) (hInConv : Cert.InConv.Facts) (hInConvIdeal : Cert.InConvIdeal.Facts) (hInConvRefIdeal : Cert.InConvRefIdeal.Facts) (hInGate : Cert.InGate.Facts) (hInGateIdeal : Cert.InGateIdeal.Facts) (hInGateRefIdeal : Cert.InGateRefIdeal.Facts) (hCtxQkv : Cert.CtxQkv.Facts) (hCtxQkvIdeal : Cert.CtxQkvIdeal.Facts) (hCtxQkvRefIdeal : Cert.CtxQkvRefIdeal.Facts) (hCtxAb : Cert.CtxAb.Facts) (hCtxAbIdeal : Cert.CtxAbIdeal.Facts) (hCtxAbRefIdeal : Cert.CtxAbRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hMixout : Cert.Mixout.Facts) (hMixoutIdeal : Cert.MixoutIdeal.Facts) (hMixoutRefIdeal : Cert.MixoutRefIdeal.Facts) (hShared : Cert.Shared.Facts) (hSharedIdeal : Cert.SharedIdeal.Facts) (hSharedRefIdeal : Cert.SharedRefIdeal.Facts) (hAda : Cert.Ada.Facts) (hAdaIdeal : Cert.AdaIdeal.Facts) (hAdaRefIdeal : Cert.AdaRefIdeal.Facts) (hNorm : Cert.Norm.Facts) (hNormIdeal : Cert.NormIdeal.Facts) (hNormRefIdeal : Cert.NormRefIdeal.Facts) (hCtxNorm : Cert.CtxNorm.Facts) (hCtxNormIdeal : Cert.CtxNormIdeal.Facts) (hCtxNormRefIdeal : Cert.CtxNormRefIdeal.Facts) (hConv : Cert.Conv.Facts) (hConvIdeal : Cert.ConvIdeal.Facts) (hConvRefIdeal : Cert.ConvRefIdeal.Facts) (hCombine : Cert.Combine.Facts) (hCombineIdeal : Cert.CombineIdeal.Facts) (hCombineRefIdeal : Cert.CombineRefIdeal.Facts) (hGdn : Cert.Gdn.Facts) (hGdnIdeal : Cert.GdnIdeal.Facts),
    quiescent_InQkv (hInQkv := hInQkv)
    ∧ quiescent_InQkvIdeal (hInQkvIdeal := hInQkvIdeal)
    ∧ quiescent_InQkvRefIdeal (hInQkvRefIdeal := hInQkvRefIdeal)
    ∧ quiescent_InAb (hInAb := hInAb)
    ∧ quiescent_InAbIdeal (hInAbIdeal := hInAbIdeal)
    ∧ quiescent_InAbRefIdeal (hInAbRefIdeal := hInAbRefIdeal)
    ∧ quiescent_InZ (hInZ := hInZ)
    ∧ quiescent_InZIdeal (hInZIdeal := hInZIdeal)
    ∧ quiescent_InZRefIdeal (hInZRefIdeal := hInZRefIdeal)
    ∧ quiescent_InConv (hInConv := hInConv)
    ∧ quiescent_InConvIdeal (hInConvIdeal := hInConvIdeal)
    ∧ quiescent_InConvRefIdeal (hInConvRefIdeal := hInConvRefIdeal)
    ∧ quiescent_InGate (hInGate := hInGate)
    ∧ quiescent_InGateIdeal (hInGateIdeal := hInGateIdeal)
    ∧ quiescent_InGateRefIdeal (hInGateRefIdeal := hInGateRefIdeal)
    ∧ quiescent_CtxQkv (hCtxQkv := hCtxQkv)
    ∧ quiescent_CtxQkvIdeal (hCtxQkvIdeal := hCtxQkvIdeal)
    ∧ quiescent_CtxQkvRefIdeal (hCtxQkvRefIdeal := hCtxQkvRefIdeal)
    ∧ quiescent_CtxAb (hCtxAb := hCtxAb)
    ∧ quiescent_CtxAbIdeal (hCtxAbIdeal := hCtxAbIdeal)
    ∧ quiescent_CtxAbRefIdeal (hCtxAbRefIdeal := hCtxAbRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_Mixout (hMixout := hMixout)
    ∧ quiescent_MixoutIdeal (hMixoutIdeal := hMixoutIdeal)
    ∧ quiescent_MixoutRefIdeal (hMixoutRefIdeal := hMixoutRefIdeal)
    ∧ quiescent_Shared (hShared := hShared)
    ∧ quiescent_SharedIdeal (hSharedIdeal := hSharedIdeal)
    ∧ quiescent_SharedRefIdeal (hSharedRefIdeal := hSharedRefIdeal)
    ∧ quiescent_Ada (hAda := hAda)
    ∧ quiescent_AdaIdeal (hAdaIdeal := hAdaIdeal)
    ∧ quiescent_AdaRefIdeal (hAdaRefIdeal := hAdaRefIdeal)
    ∧ quiescent_Norm (hNorm := hNorm)
    ∧ quiescent_NormIdeal (hNormIdeal := hNormIdeal)
    ∧ quiescent_NormRefIdeal (hNormRefIdeal := hNormRefIdeal)
    ∧ quiescent_CtxNorm (hCtxNorm := hCtxNorm)
    ∧ quiescent_CtxNormIdeal (hCtxNormIdeal := hCtxNormIdeal)
    ∧ quiescent_CtxNormRefIdeal (hCtxNormRefIdeal := hCtxNormRefIdeal)
    ∧ quiescent_Conv (hConv := hConv)
    ∧ quiescent_ConvIdeal (hConvIdeal := hConvIdeal)
    ∧ quiescent_ConvRefIdeal (hConvRefIdeal := hConvRefIdeal)
    ∧ quiescent_Combine (hCombine := hCombine)
    ∧ quiescent_CombineIdeal (hCombineIdeal := hCombineIdeal)
    ∧ quiescent_CombineRefIdeal (hCombineRefIdeal := hCombineRefIdeal)
    ∧ quiescent_Gdn (hGdn := hGdn)
    ∧ quiescent_GdnIdeal (hGdnIdeal := hGdnIdeal)
    ∧ preserves_InQkv_InQkvIdeal
    ∧ algebraic_InQkvIdeal_InQkvRefIdeal (hInQkvIdeal := hInQkvIdeal) (hInQkvRefIdeal := hInQkvRefIdeal)
    ∧ preserves_InAb_InAbIdeal
    ∧ algebraic_InAbIdeal_InAbRefIdeal (hInAbIdeal := hInAbIdeal) (hInAbRefIdeal := hInAbRefIdeal)
    ∧ preserves_InZ_InZIdeal
    ∧ algebraic_InZIdeal_InZRefIdeal (hInZIdeal := hInZIdeal) (hInZRefIdeal := hInZRefIdeal)
    ∧ preserves_InConv_InConvIdeal
    ∧ algebraic_InConvIdeal_InConvRefIdeal (hInConvIdeal := hInConvIdeal) (hInConvRefIdeal := hInConvRefIdeal)
    ∧ preserves_InGate_InGateIdeal
    ∧ algebraic_InGateIdeal_InGateRefIdeal (hInGateIdeal := hInGateIdeal) (hInGateRefIdeal := hInGateRefIdeal)
    ∧ preserves_CtxQkv_CtxQkvIdeal
    ∧ algebraic_CtxQkvIdeal_CtxQkvRefIdeal (hCtxQkvIdeal := hCtxQkvIdeal) (hCtxQkvRefIdeal := hCtxQkvRefIdeal)
    ∧ preserves_CtxAb_CtxAbIdeal
    ∧ algebraic_CtxAbIdeal_CtxAbRefIdeal (hCtxAbIdeal := hCtxAbIdeal) (hCtxAbRefIdeal := hCtxAbRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_Mixout_MixoutIdeal
    ∧ algebraic_MixoutIdeal_MixoutRefIdeal (hMixoutIdeal := hMixoutIdeal) (hMixoutRefIdeal := hMixoutRefIdeal)
    ∧ preserves_Shared_SharedIdeal
    ∧ algebraic_SharedIdeal_SharedRefIdeal (hSharedIdeal := hSharedIdeal) (hSharedRefIdeal := hSharedRefIdeal)
    ∧ preserves_Ada_AdaIdeal
    ∧ algebraic_AdaIdeal_AdaRefIdeal (hAdaIdeal := hAdaIdeal) (hAdaRefIdeal := hAdaRefIdeal)
    ∧ preserves_Norm_NormIdeal
    ∧ algebraic_NormIdeal_NormRefIdeal (hNormIdeal := hNormIdeal) (hNormRefIdeal := hNormRefIdeal)
    ∧ preserves_CtxNorm_CtxNormIdeal
    ∧ algebraic_CtxNormIdeal_CtxNormRefIdeal (hCtxNormIdeal := hCtxNormIdeal) (hCtxNormRefIdeal := hCtxNormRefIdeal)
    ∧ preserves_Conv_ConvIdeal
    ∧ algebraic_ConvIdeal_ConvRefIdeal (hConvIdeal := hConvIdeal) (hConvRefIdeal := hConvRefIdeal)
    ∧ preserves_Combine_CombineIdeal
    ∧ algebraic_CombineIdeal_CombineRefIdeal (hCombineIdeal := hCombineIdeal) (hCombineRefIdeal := hCombineRefIdeal)
    ∧ preserves_Gdn_GdnIdeal
-- ==== InQkv.lean ====
abbrev S16384x2048 : Shape := ⟨2, ![16384, 2048]⟩
abbrev S1x2048x22656 : Shape := ⟨3, ![1, 2048, 22656]⟩
abbrev S2048x22656 : Shape := ⟨2, ![2048, 22656]⟩
abbrev S2048x8192 : Shape := ⟨2, ![2048, 8192]⟩
abbrev S16384x8192 : Shape := ⟨2, ![16384, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S2048x22656, .f32⟩
  | .hbm, ⟨3, _⟩ => ⟨S2048x8192, .f32⟩
  | .hbm, ⟨4, _⟩ => ⟨S2048x8192, .bf16⟩
  | .hbm, ⟨5, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InQkvRefIdeal.lean ====
abbrev S16384x2048 : Shape := ⟨2, ![16384, 2048]⟩
abbrev S1x2048x22656 : Shape := ⟨3, ![1, 2048, 22656]⟩
abbrev S2048x22656 : Shape := ⟨2, ![2048, 22656]⟩
abbrev S16384x22656 : Shape := ⟨2, ![16384, 22656]⟩
abbrev S16384x8192 : Shape := ⟨2, ![16384, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S16384x2048, .f32⟩
  | .hbm, ⟨3, _⟩ => ⟨S2048x22656, .f32⟩
  | .hbm, ⟨4, _⟩ => ⟨S16384x22656, .f32⟩
  | .hbm, ⟨5, _⟩ => ⟨S16384x8192, .f32⟩
  | .hbm, ⟨6, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InAb.lean ====
abbrev S16384x2048 : Shape := ⟨2, ![16384, 2048]⟩
abbrev S1x2048x22656 : Shape := ⟨3, ![1, 2048, 22656]⟩
abbrev S2048x22656 : Shape := ⟨2, ![2048, 22656]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S2048x22656, .f32⟩
  | .hbm, ⟨3, _⟩ => ⟨S2048x128, .f32⟩
  | .hbm, ⟨4, _⟩ => ⟨S2048x128, .bf16⟩
  | .hbm, ⟨5, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAbRefIdeal.lean ====
abbrev S16384x2048 : Shape := ⟨2, ![16384, 2048]⟩
abbrev S1x2048x22656 : Shape := ⟨3, ![1, 2048, 22656]⟩
abbrev S2048x22656 : Shape := ⟨2, ![2048, 22656]⟩
abbrev S16384x22656 : Shape := ⟨2, ![16384, 22656]⟩
abbrev S16384x128 : Shape := ⟨2, ![16384, 128]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S16384x2048, .f32⟩
  | .hbm, ⟨3, _⟩ => ⟨S2048x22656, .f32⟩
  | .hbm, ⟨4, _⟩ => ⟨S16384x22656, .f32⟩
  | .hbm, ⟨5, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InZ.lean ====
abbrev S16384x2048 : Shape := ⟨2, ![16384, 2048]⟩
abbrev S1x2048x22656 : Shape := ⟨3, ![1, 2048, 22656]⟩
abbrev S2048x22656 : Shape := ⟨2, ![2048, 22656]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S2048x22656, .f32⟩
  | .hbm, ⟨3, _⟩ => ⟨S2048x4096, .f32⟩
  | .hbm, ⟨4, _⟩ => ⟨S2048x4096, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InZRefIdeal.lean ====
abbrev S16384x2048 : Shape := ⟨2, ![16384, 2048]⟩
abbrev S1x2048x22656 : Shape := ⟨3, ![1, 2048, 22656]⟩
abbrev S2048x22656 : Shape := ⟨2, ![2048, 22656]⟩
abbrev S16384x22656 : Shape := ⟨2, ![16384, 22656]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S16384x2048, .f32⟩
  | .hbm, ⟨3, _⟩ => ⟨S2048x22656, .f32⟩
  | .hbm, ⟨4, _⟩ => ⟨S16384x22656, .f32⟩
  | .hbm, ⟨5, _⟩ => ⟨S16384x4096, .f32⟩
  | .hbm, ⟨6, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InConv.lean ====
abbrev S16384x2048 : Shape := ⟨2, ![16384, 2048]⟩
abbrev S1x2048x22656 : Shape := ⟨3, ![1, 2048, 22656]⟩
abbrev S2048x22656 : Shape := ⟨2, ![2048, 22656]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S2048x22656, .f32⟩
  | .hbm, ⟨3, _⟩ => ⟨S2048x6144, .f32⟩
  | .hbm, ⟨4, _⟩ => ⟨S2048x6144, .bf16⟩
  | .hbm, ⟨5, _⟩ => ⟨S16384x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InConvRefIdeal.lean ====
abbrev S16384x2048 : Shape := ⟨2, ![16384, 2048]⟩
abbrev S1x2048x22656 : Shape := ⟨3, ![1, 2048, 22656]⟩
abbrev S2048x22656 : Shape := ⟨2, ![2048, 22656]⟩
abbrev S16384x22656 : Shape := ⟨2, ![16384, 22656]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S16384x2048, .f32⟩
  | .hbm, ⟨3, _⟩ => ⟨S2048x22656, .f32⟩
  | .hbm, ⟨4, _⟩ => ⟨S16384x22656, .f32⟩
  | .hbm, ⟨5, _⟩ => ⟨S16384x6144, .f32⟩
  | .hbm, ⟨6, _⟩ => ⟨S16384x6144, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InGate.lean ====
abbrev S16384x2048 : Shape := ⟨2, ![16384, 2048]⟩
abbrev S1x2048x22656 : Shape := ⟨3, ![1, 2048, 22656]⟩
abbrev S2048x22656 : Shape := ⟨2, ![2048, 22656]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S2048x22656, .f32⟩
  | .hbm, ⟨3, _⟩ => ⟨S2048x4096, .f32⟩
  | .hbm, ⟨4, _⟩ => ⟨S2048x4096, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGateRefIdeal.lean ====
abbrev S16384x2048 : Shape := ⟨2, ![16384, 2048]⟩
abbrev S1x2048x22656 : Shape := ⟨3, ![1, 2048, 22656]⟩
abbrev S2048x22656 : Shape := ⟨2, ![2048, 22656]⟩
abbrev S16384x22656 : Shape := ⟨2, ![16384, 22656]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x22656, .f32⟩
  | .hbm, ⟨2, _⟩ => ⟨S16384x2048, .f32⟩
  | .hbm, ⟨3, _⟩ => ⟨S2048x22656, .f32⟩
  | .hbm, ⟨4, _⟩ => ⟨S16384x22656, .f32⟩
  | .hbm, ⟨5, _⟩ => ⟨S16384x4096, .f32⟩
  | .hbm, ⟨6, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== CtxQkv.lean ====
abbrev S1024x2048 : Shape := ⟨2, ![1024, 2048]⟩
abbrev S1x2048x22656 : Shape := ⟨3, ![1, 2048, 22656]⟩
abbrev S2048x22656 : Shape := ⟨2, ![2048, 22656]⟩
abbrev S2048x8192 : Shape := ⟨2, ![2048, 8192]⟩
abbrev S1024x8192 : Shape := ⟨2, ![1024, 8192]⟩
abbrev S2048x1024 : Shape := ⟨2, ![2048, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S1x2048x22656, .f32⟩
  | .hbm, ⟨2, _⟩ => ⟨S2048x22656, .f32⟩
  | .hbm, ⟨3, _⟩ => ⟨S2048x8192, .f32⟩
  | .hbm, ⟨4, _⟩ => ⟨S2048x8192, .bf16⟩
  | .hbm, ⟨5, _⟩ => ⟨S1024x8192, .bf16⟩
  | .local _ .vmem, ⟨0, _⟩ => ⟨S1024x2048, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxQkvRefIdeal.lean ====
abbrev S1024x2048 : Shape := ⟨2, ![1024, 2048]⟩
abbrev S1x2048x22656 : Shape := ⟨3, ![1, 2048, 22656]⟩
abbrev S2048x22656 : Shape := ⟨2, ![2048, 22656]⟩
abbrev S2048x8320 : Shape := ⟨2, ![2048, 8320]⟩
abbrev S1024x8320 : Shape := ⟨2, ![1024, 8320]⟩
abbrev S1024x8192 : Shape := ⟨2, ![1024, 8192]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x22656, .f32⟩
  | .hbm, ⟨2, _⟩ => ⟨S1024x2048, .f32⟩
  | .hbm, ⟨3, _⟩ => ⟨S2048x22656, .f32⟩
  | .hbm, ⟨4, _⟩ => ⟨S2048x8320, .f32⟩
  | .hbm, ⟨5, _⟩ => ⟨S1024x8320, .f32⟩
  | .hbm, ⟨6, _⟩ => ⟨S1024x8192, .f32⟩
  | .hbm, ⟨7, _⟩ => ⟨S1024x8192, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== CtxAb.lean ====
abbrev S1024x2048 : Shape := ⟨2, ![1024, 2048]⟩
abbrev S1x2048x22656 : Shape := ⟨3, ![1, 2048, 22656]⟩
abbrev S2048x22656 : Shape := ⟨2, ![2048, 22656]⟩
abbrev S2048x128 : Shape := ⟨2, ![2048, 128]⟩
abbrev S1024x128 : Shape := ⟨2, ![1024, 128]⟩

abbrev nBuf : Space → Nat
  | .hbm => 6
  | .vmem => 3
  | .smem => 0
  | _ => 0

abbrev bufTy : (tb : Table) → Fin (tcTables nBuf tb) → BufTy
  | .hbm, ⟨0, _⟩ => ⟨S1024x2048, .bf16⟩
  | .hbm, ⟨1, _⟩ => ⟨S1x2048x22656, .f32⟩
  | .hbm, ⟨2, _⟩ => ⟨S2048x22656, .f32⟩
  | .hbm, ⟨3, _⟩ => ⟨S2048x128, .f32⟩
  | .hbm, ⟨4, _⟩ => ⟨S2048x128, .bf16⟩
  | .hbm, ⟨5, _⟩ => ⟨S1024x128, .f32⟩
  | .local _ .vmem, ⟨0, _⟩ => ⟨S1024x2048, .bf16⟩
  | .local _ .vmem, ⟨1, _⟩ => ⟨S2048x128, .bf16⟩
  | .local _ .vmem, ⟨2, _⟩ => ⟨S1024x128, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== CtxAbRefIdeal.lean ====
abbrev S1024x2048 : Shape := ⟨2, ![1024, 2048]⟩
abbrev S1x2048x22656 : Shape := ⟨3, ![1, 2048, 22656]⟩
abbrev S2048x22656 : Shape := ⟨2, ![2048, 22656]⟩
abbrev S2048x8320 : Shape := ⟨2, ![2048, 8320]⟩
abbrev S1024x8320 : Shape := ⟨2, ![1024, 8320]⟩
abbrev S1024x128 : Shape := ⟨2, ![1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x22656, .f32⟩
  | .hbm, ⟨2, _⟩ => ⟨S1024x2048, .f32⟩
  | .hbm, ⟨3, _⟩ => ⟨S2048x22656, .f32⟩
  | .hbm, ⟨4, _⟩ => ⟨S2048x8320, .f32⟩
  | .hbm, ⟨5, _⟩ => ⟨S1024x8320, .f32⟩
  | .hbm, ⟨6, _⟩ => ⟨S1024x128, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjA.lean ====
abbrev S16384x2048 : Shape := ⟨2, ![16384, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x2048, .f32⟩
  | .hbm, ⟨2, _⟩ => ⟨S16384x2048, .f32⟩
  | .hbm, ⟨3, _⟩ => ⟨S2048x2048, .f32⟩
  | .hbm, ⟨4, _⟩ => ⟨S16384x2048, .f32⟩
  | .hbm, ⟨5, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjB.lean ====
abbrev S16384x4096 : Shape := ⟨2, ![16384, 4096]⟩
abbrev S1x4096x2048 : Shape := ⟨3, ![1, 4096, 2048]⟩
abbrev S4096x2048 : Shape := ⟨2, ![4096, 2048]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S4096x2048, .f32⟩
  | .hbm, ⟨3, _⟩ => ⟨S4096x2048, .bf16⟩
  | .hbm, ⟨4, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjBRefIdeal.lean ====
abbrev S16384x4096 : Shape := ⟨2, ![16384, 4096]⟩
abbrev S1x4096x2048 : Shape := ⟨3, ![1, 4096, 2048]⟩
abbrev S4096x2048 : Shape := ⟨2, ![4096, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x2048, .f32⟩
  | .hbm, ⟨2, _⟩ => ⟨S16384x4096, .f32⟩
  | .hbm, ⟨3, _⟩ => ⟨S4096x2048, .f32⟩
  | .hbm, ⟨4, _⟩ => ⟨S16384x2048, .f32⟩
  | .hbm, ⟨5, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mixout.lean ====
abbrev S4x4096x2048 : Shape := ⟨3, ![4, 4096, 2048]⟩
abbrev S4x4096x4096 : Shape := ⟨3, ![4, 4096, 4096]⟩
abbrev S1x2048x2048 : Shape := ⟨3, ![1, 2048, 2048]⟩
abbrev S8x6x2048 : Shape := ⟨3, ![8, 6, 2048]⟩
abbrev S2048x2048 : Shape := ⟨2, ![2048, 2048]⟩
abbrev S1x512x2048 : Shape := ⟨3, ![1, 512, 2048]⟩
abbrev S1x6x2048 : Shape := ⟨3, ![1, 6, 2048]⟩
abbrev S512x2048 : Shape := ⟨2, ![512, 2048]⟩
abbrev S6x2048 : Shape := ⟨2, ![6, 2048]⟩
abbrev S1x2048 : Shape := ⟨2, ![1, 2048]⟩

abbrev nBuf : Space → Nat
  | .hbm => 9
  | .vmem => 15
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x4096, .bf16⟩
  | .hbm, ⟨3, _⟩ => ⟨S1x2048x2048, .f32⟩
  | .hbm, ⟨4, _⟩ => ⟨S4x4096x2048, .f32⟩
  | .hbm, ⟨5, _⟩ => ⟨S8x6x2048, .f32⟩
  | .hbm, ⟨6, _⟩ => ⟨S2048x2048, .f32⟩
  | .hbm, ⟨7, _⟩ => ⟨S2048x2048, .bf16⟩
  | .hbm, ⟨8, _⟩ => ⟨S4x4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S2048x2048, .bf16⟩
  | .local _ .vmem, ⟨9, _⟩ => ⟨S1x512x2048, .f32⟩
  | .local _ .vmem, ⟨10, _⟩ => ⟨S1x512x2048, .f32⟩
  | .local _ .vmem, ⟨11, _⟩ => ⟨S1x6x2048, .f32⟩
  | .local _ .vmem, ⟨12, _⟩ => ⟨S1x6x2048, .f32⟩
  | .local _ .vmem, ⟨13, _⟩ => ⟨S1x512x2048, .f32⟩
  | .local _ .vmem, ⟨14, _⟩ => ⟨S1x512x2048, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixoutRefIdeal.lean ====
abbrev S4x4096x2048 : Shape := ⟨3, ![4, 4096, 2048]⟩
abbrev S4x4096x4096 : Shape := ⟨3, ![4, 4096, 4096]⟩
abbrev S1x2048x2048 : Shape := ⟨3, ![1, 2048, 2048]⟩
abbrev S8x6x2048 : Shape := ⟨3, ![8, 6, 2048]⟩
abbrev S_ : Shape := ⟨0, ![]⟩
abbrev S4x1x2048 : Shape := ⟨3, ![4, 1, 2048]⟩
abbrev S4x2048 : Shape := ⟨2, ![4, 2048]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x4096, .bf16⟩
  | .hbm, ⟨3, _⟩ => ⟨S1x2048x2048, .f32⟩
  | .hbm, ⟨4, _⟩ => ⟨S4x4096x2048, .f32⟩
  | .hbm, ⟨5, _⟩ => ⟨S8x6x2048, .f32⟩
  | .hbm, ⟨6, _⟩ => ⟨S4x4096x2048, .f32⟩
  | .hbm, ⟨7, _⟩ => ⟨S4x4096x2048, .f32⟩
  | .hbm, ⟨8, _⟩ => ⟨S4x4096x4096, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S_, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x1x2048, .f32⟩
  | .hbm, ⟨31, _⟩ => ⟨S4x2048, .f32⟩
  | .hbm, ⟨32, _⟩ => ⟨S4x1x2048, .f32⟩
  | .hbm, ⟨33, _⟩ => ⟨S2048x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Shared.lean ====
abbrev S16384x2048 : Shape := ⟨2, ![16384, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x2048 : Shape := ⟨2, ![512, 2048]⟩
abbrev S512x512 : Shape := ⟨2, ![512, 512]⟩

abbrev nBuf : Space → Nat
  | .hbm => 11
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S1x2048x512, .f32⟩
  | .hbm, ⟨2, _⟩ => ⟨S1x2048x512, .f32⟩
  | .hbm, ⟨3, _⟩ => ⟨S1x512x2048, .f32⟩
  | .hbm, ⟨4, _⟩ => ⟨S2048x512, .f32⟩
  | .hbm, ⟨5, _⟩ => ⟨S2048x512, .bf16⟩
  | .hbm, ⟨6, _⟩ => ⟨S2048x512, .f32⟩
  | .hbm, ⟨7, _⟩ => ⟨S2048x512, .bf16⟩
  | .hbm, ⟨8, _⟩ => ⟨S512x2048, .f32⟩
  | .hbm, ⟨9, _⟩ => ⟨S512x2048, .bf16⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SharedRefIdeal.lean ====
abbrev S16384x2048 : Shape := ⟨2, ![16384, 2048]⟩
abbrev S1x2048x512 : Shape := ⟨3, ![1, 2048, 512]⟩
abbrev S1x512x2048 : Shape := ⟨3, ![1, 512, 2048]⟩
abbrev S2048x512 : Shape := ⟨2, ![2048, 512]⟩
abbrev S16384x512 : Shape := ⟨2, ![16384, 512]⟩
abbrev S_ : Shape := ⟨0, ![]⟩
abbrev S512x2048 : Shape := ⟨2, ![512, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x512, .f32⟩
  | .hbm, ⟨2, _⟩ => ⟨S1x2048x512, .f32⟩
  | .hbm, ⟨3, _⟩ => ⟨S1x512x2048, .f32⟩
  | .hbm, ⟨4, _⟩ => ⟨S16384x2048, .f32⟩
  | .hbm, ⟨5, _⟩ => ⟨S2048x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S_, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S2048x512, .f32⟩
  | .hbm, ⟨17, _⟩ => ⟨S16384x512, .f32⟩
  | .hbm, ⟨18, _⟩ => ⟨S16384x512, .f32⟩
  | .hbm, ⟨19, _⟩ => ⟨S512x2048, .f32⟩
  | .hbm, ⟨20, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Ada.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Norm.lean ====
abbrev S4x4096x2048 : Shape := ⟨3, ![4, 4096, 2048]⟩
abbrev S1x2048 : Shape := ⟨2, ![1, 2048]⟩
abbrev S8x6x2048 : Shape := ⟨3, ![8, 6, 2048]⟩
abbrev S1x512x2048 : Shape := ⟨3, ![1, 512, 2048]⟩
abbrev S1x6x2048 : Shape := ⟨3, ![1, 6, 2048]⟩
abbrev S512x2048 : Shape := ⟨2, ![512, 2048]⟩
abbrev S512 : Shape := ⟨1, ![512]⟩
abbrev S512x1 : Shape := ⟨2, ![512, 1]⟩
abbrev S6x2048 : Shape := ⟨2, ![6, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S8x6x2048, .f32⟩
  | .hbm, ⟨3, _⟩ => ⟨S4x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S1x512x2048, .bf16⟩
  | .local _ .vmem, ⟨6, _⟩ => ⟨S1x512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NormRefIdeal.lean ====
abbrev S4x4096x2048 : Shape := ⟨3, ![4, 4096, 2048]⟩
abbrev S1x2048 : Shape := ⟨2, ![1, 2048]⟩
abbrev S8x6x2048 : Shape := ⟨3, ![8, 6, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x2048 : Shape := ⟨2, ![4, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S8x6x2048, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S4x1x2048, .f32⟩
  | .hbm, ⟨21, _⟩ => ⟨S4x2048, .f32⟩
  | .hbm, ⟨22, _⟩ => ⟨S4x1x2048, .f32⟩
  | .hbm, ⟨23, _⟩ => ⟨S4x1x2048, .f32⟩
  | .hbm, ⟨24, _⟩ => ⟨S4x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== CtxNorm.lean ====
abbrev S4x256x2048 : Shape := ⟨3, ![4, 256, 2048]⟩
abbrev S1x2048 : Shape := ⟨2, ![1, 2048]⟩
abbrev S8x6x2048 : Shape := ⟨3, ![8, 6, 2048]⟩
abbrev S1x256x2048 : Shape := ⟨3, ![1, 256, 2048]⟩
abbrev S1x6x2048 : Shape := ⟨3, ![1, 6, 2048]⟩
abbrev S256x2048 : Shape := ⟨2, ![256, 2048]⟩
abbrev S256 : Shape := ⟨1, ![256]⟩
abbrev S256x1 : Shape := ⟨2, ![256, 1]⟩
abbrev S6x2048 : Shape := ⟨2, ![6, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S8x6x2048, .f32⟩
  | .hbm, ⟨3, _⟩ => ⟨S4x256x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x6x2048, .f32⟩
  | .local _ .vmem, ⟨4, _⟩ => ⟨S1x256x2048, .bf16⟩
  | .local _ .vmem, ⟨5, _⟩ => ⟨S1x256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x6x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxNormRefIdeal.lean ====
abbrev S4x256x2048 : Shape := ⟨3, ![4, 256, 2048]⟩
abbrev S1x2048 : Shape := ⟨2, ![1, 2048]⟩
abbrev S8x6x2048 : Shape := ⟨3, ![8, 6, 2048]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S8x6x2048, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S1x1x2048, .f32⟩
  | .hbm, ⟨21, _⟩ => ⟨S2048, .f32⟩
  | .hbm, ⟨22, _⟩ => ⟨S1x1x2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S1x1x2048, .f32⟩
  | .hbm, ⟨28, _⟩ => ⟨S4x256x2048, .f32⟩
  | .hbm, ⟨29, _⟩ => ⟨S4x256x2048, .f32⟩
  | .hbm, ⟨30, _⟩ => ⟨S1x1x2048, .f32⟩
  | .hbm, ⟨31, _⟩ => ⟨S4x256x2048, .f32⟩
  | .hbm, ⟨32, _⟩ => ⟨S4x256x2048, .f32⟩
  | .hbm, ⟨33, _⟩ => ⟨S4x256x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Conv.lean ====
abbrev S16384x6144 : Shape := ⟨2, ![16384, 6144]⟩
abbrev S1x3x2048 : Shape := ⟨3, ![1, 3, 2048]⟩
abbrev S3x2048 : Shape := ⟨2, ![3, 2048]⟩
abbrev S16384x2048 : Shape := ⟨2, ![16384, 2048]⟩
abbrev S512x512 : Shape := ⟨2, ![512, 512]⟩
abbrev S3x512 : Shape := ⟨2, ![3, 512]⟩
abbrev S1x512 : Shape := ⟨2, ![1, 512]⟩

abbrev nBuf : Space → Nat
  | .hbm => 4
  | .vmem => 10
  | .smem => 0
  | _ => 0

abbrev bufTy : (tb : Table) → Fin (tcTables nBuf tb) → BufTy
  | .hbm, ⟨0, _⟩ => ⟨S16384x6144, .bf16⟩
  | .hbm, ⟨1, _⟩ => ⟨S1x3x2048, .f32⟩
  | .hbm, ⟨2, _⟩ => ⟨S3x2048, .f32⟩
  | .hbm, ⟨3, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512, .f32⟩
  | .local _ .vmem, ⟨7, _⟩ => ⟨S3x512, .f32⟩
  | .local _ .vmem, ⟨8, _⟩ => ⟨S512x512, .bf16⟩
  | .local _ .vmem, ⟨9, _⟩ => ⟨S512x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S16384x6144 : Shape := ⟨2, ![16384, 6144]⟩
abbrev S1x3x2048 : Shape := ⟨3, ![1, 3, 2048]⟩
abbrev S4x4096x6144 : Shape := ⟨3, ![4, 4096, 6144]⟩
abbrev S4x4096x2048 : Shape := ⟨3, ![4, 4096, 2048]⟩
abbrev S4x64x64x2048 : Shape := ⟨4, ![4, 64, 64, 2048]⟩
abbrev S3x2048 : Shape := ⟨2, ![3, 2048]⟩
abbrev S_ : Shape := ⟨0, ![]⟩
abbrev S4x64x66x2048 : Shape := ⟨4, ![4, 64, 66, 2048]⟩
abbrev S1x2048 : Shape := ⟨2, ![1, 2048]⟩
abbrev S2048 : Shape := ⟨1, ![2048]⟩
abbrev S1x1x1x2048 : Shape := ⟨4, ![1, 1, 1, 2048]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1x3x2048, .f32⟩
  | .hbm, ⟨2, _⟩ => ⟨S16384x6144, .f32⟩
  | .hbm, ⟨3, _⟩ => ⟨S4x4096x6144, .f32⟩
  | .hbm, ⟨4, _⟩ => ⟨S4x4096x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x64x64x2048, .f32⟩
  | .hbm, ⟨9, _⟩ => ⟨S3x2048, .f32⟩
  | .hbm, ⟨10, _⟩ => ⟨S_, .f32⟩
  | .hbm, ⟨11, _⟩ => ⟨S4x64x66x2048, .f32⟩
  | .hbm, ⟨12, _⟩ => ⟨S4x64x64x2048, .f32⟩
  | .hbm, ⟨13, _⟩ => ⟨S1x2048, .f32⟩
  | .hbm, ⟨14, _⟩ => ⟨S2048, .f32⟩
  | .hbm, ⟨15, _⟩ => ⟨S1x1x1x2048, .f32⟩
  | .hbm, ⟨16, _⟩ => ⟨S4x64x64x2048, .f32⟩
  | .hbm, ⟨17, _⟩ => ⟨S4x64x64x2048, .f32⟩
  | .hbm, ⟨18, _⟩ => ⟨S4x64x64x2048, .f32⟩
  | .hbm, ⟨19, _⟩ => ⟨S1x2048, .f32⟩
  | .hbm, ⟨20, _⟩ => ⟨S2048, .f32⟩
  | .hbm, ⟨21, _⟩ => ⟨S1x1x1x2048, .f32⟩
  | .hbm, ⟨22, _⟩ => ⟨S4x64x64x2048, .f32⟩
  | .hbm, ⟨23, _⟩ => ⟨S4x64x64x2048, .f32⟩
  | .hbm, ⟨24, _⟩ => ⟨S4x64x64x2048, .f32⟩
  | .hbm, ⟨25, _⟩ => ⟨S4x64x64x2048, .f32⟩
  | .hbm, ⟨26, _⟩ => ⟨S1x2048, .f32⟩
  | .hbm, ⟨27, _⟩ => ⟨S2048, .f32⟩
  | .hbm, ⟨28, _⟩ => ⟨S1x1x1x2048, .f32⟩
  | .hbm, ⟨29, _⟩ => ⟨S4x64x64x2048, .f32⟩
  | .hbm, ⟨30, _⟩ => ⟨S4x64x64x2048, .f32⟩
  | .hbm, ⟨31, _⟩ => ⟨S4x64x64x2048, .f32⟩
  | .hbm, ⟨32, _⟩ => ⟨S4x4096x2048, .f32⟩
  | .hbm, ⟨33, _⟩ => ⟨S4x4096x2048, .f32⟩
  | .hbm, ⟨34, _⟩ => ⟨S16384x2048, .f32⟩
  | .hbm, ⟨35, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== Combine.lean ====
abbrev S4x4096x2048 : Shape := ⟨3, ![4, 4096, 2048]⟩
abbrev S1050624x128 : Shape := ⟨2, ![1050624, 128]⟩
abbrev S4x4096x8 : Shape := ⟨3, ![4, 4096, 8]⟩
abbrev S8x6x2048 : Shape := ⟨3, ![8, 6, 2048]⟩
abbrev S2048 : Shape := ⟨1, ![2048]⟩
abbrev S1x2048 : Shape := ⟨2, ![1, 2048]⟩
abbrev S1x128x2048 : Shape := ⟨3, ![1, 128, 2048]⟩
abbrev S1x128x8 : Shape := ⟨3, ![1, 128, 8]⟩
abbrev S1x6x2048 : Shape := ⟨3, ![1, 6, 2048]⟩
abbrev S1024x128 : Shape := ⟨2, ![1024, 128]⟩
abbrev S128x8 : Shape := ⟨2, ![128, 8]⟩
abbrev S128x2048 : Shape := ⟨2, ![128, 2048]⟩
abbrev S128x128 : Shape := ⟨2, ![128, 128]⟩
abbrev S128x1 : Shape := ⟨2, ![128, 1]⟩
abbrev S6x2048 : Shape := ⟨2, ![6, 2048]⟩
abbrev S128 : Shape := ⟨1, ![128]⟩

abbrev nBuf : Space → Nat
  | .hbm => 8
  | .vmem => 27
  | .smem => 0
  | _ => 0

abbrev bufTy : (tb : Table) → Fin (tcTables nBuf tb) → BufTy
  | .hbm, ⟨0, _⟩ => ⟨S4x4096x2048, .f32⟩
  | .hbm, ⟨1, _⟩ => ⟨S1050624x128, .i32⟩
  | .hbm, ⟨2, _⟩ => ⟨S4x4096x8, .f32⟩
  | .hbm, ⟨3, _⟩ => ⟨S4x4096x2048, .f32⟩
  | .hbm, ⟨4, _⟩ => ⟨S8x6x2048, .f32⟩
  | .hbm, ⟨5, _⟩ => ⟨S2048, .f32⟩
  | .hbm, ⟨6, _⟩ => ⟨S1x2048, .f32⟩
  | .hbm, ⟨7, _⟩ => ⟨S4x4096x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x8, .f32⟩
  | .local _ .vmem, ⟨3, _⟩ => ⟨S1x128x8, .f32⟩
  | .local _ .vmem, ⟨4, _⟩ => ⟨S1x128x2048, .f32⟩
  | .local _ .vmem, ⟨5, _⟩ => ⟨S1x128x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x2048, .f32⟩
  | .local _ .vmem, ⟨9, _⟩ => ⟨S1024x128, .i32⟩
  | .local _ .vmem, ⟨10, _⟩ => ⟨S1024x128, .i32⟩
  | .local _ .vmem, ⟨11, _⟩ => ⟨S1024x128, .i32⟩
  | .local _ .vmem, ⟨12, _⟩ => ⟨S1024x128, .i32⟩
  | .local _ .vmem, ⟨13, _⟩ => ⟨S1024x128, .i32⟩
  | .local _ .vmem, ⟨14, _⟩ => ⟨S1024x128, .i32⟩
  | .local _ .vmem, ⟨15, _⟩ => ⟨S1024x128, .i32⟩
  | .local _ .vmem, ⟨16, _⟩ => ⟨S1024x128, .i32⟩
  | .local _ .vmem, ⟨17, _⟩ => ⟨S1024x128, .i32⟩
  | .local _ .vmem, ⟨18, _⟩ => ⟨S1024x128, .i32⟩
  | .local _ .vmem, ⟨19, _⟩ => ⟨S1024x128, .i32⟩
  | .local _ .vmem, ⟨20, _⟩ => ⟨S1024x128, .i32⟩
  | .local _ .vmem, ⟨21, _⟩ => ⟨S1024x128, .i32⟩
  | .local _ .vmem, ⟨22, _⟩ => ⟨S1024x128, .i32⟩
  | .local _ .vmem, ⟨23, _⟩ => ⟨S1024x128, .i32⟩
  | .local _ .vmem, ⟨24, _⟩ => ⟨S1024x128, .i32⟩
  | .local _ .vmem, ⟨25, _⟩ => ⟨S1x128x2048, .f32⟩
  | .local _ .vmem, ⟨26, _⟩ => ⟨S1x128x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.muli v0 c32_i32
  let v2 : BitVec 32 := Scalar.addi v1 arg1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c32_i32 : BitVec 32 := 32#32
  let v1 : BitVec 32 := Scalar.muli v0 c32_i32
  let v2 : BitVec 32 := Scalar.addi v1 arg1
  let c0_i32 : BitVec 32 := 0#32
  let c0_i32_0 : BitVec 32 := 0#32
  ![v2.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== CombineRefIdeal.lean ====
abbrev S4x4096x2048 : Shape := ⟨3, ![4, 4096, 2048]⟩
abbrev S1050624x128 : Shape := ⟨2, ![1050624, 128]⟩
abbrev S4x4096x8 : Shape := ⟨3, ![4, 4096, 8]⟩
abbrev S8x6x2048 : Shape := ⟨3, ![8, 6, 2048]⟩
abbrev S2048 : Shape := ⟨1, ![2048]⟩
abbrev S131328x1024 : Shape := ⟨2, ![131328, 1024]⟩
abbrev S131072x1024 : Shape := ⟨2, ![131072, 1024]⟩
abbrev S8x4x4096x1024 : Shape := ⟨4, ![8, 4, 4096, 1024]⟩
abbrev S8x4x4096x1024x2 : Shape := ⟨5, ![8, 4, 4096, 1024, 2]⟩
abbrev S8x4x4096x1024x1 : Shape := ⟨5, ![8, 4, 4096, 1024, 1]⟩
abbrev S8x4x4096x2048 : Shape := ⟨4, ![8, 4, 4096, 2048]⟩
abbrev S8x4x4096 : Shape := ⟨3, ![8, 4, 4096]⟩
abbrev S8x4x4096x1 : Shape := ⟨4, ![8, 4, 4096, 1]⟩
abbrev S_ : Shape := ⟨0, ![]⟩
abbrev S4x1x2048 : Shape := ⟨3, ![4, 1, 2048]⟩
abbrev S4x2048 : Shape := ⟨2, ![4, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1050624x128, .i32⟩
  | .hbm, ⟨2, _⟩ => ⟨S4x4096x8, .f32⟩
  | .hbm, ⟨3, _⟩ => ⟨S4x4096x2048, .f32⟩
  | .hbm, ⟨4, _⟩ => ⟨S8x6x2048, .f32⟩
  | .hbm, ⟨5, _⟩ => ⟨S2048, .f32⟩
  | .hbm, ⟨6, _⟩ => ⟨S131328x1024, .i32⟩
  | .hbm, ⟨7, _⟩ => ⟨S131072x1024, .i32⟩
  | .hbm, ⟨8, _⟩ => ⟨S8x4x4096x1024, .i32⟩
  | .hbm, ⟨9, _⟩ => ⟨S8x4x4096x1024x2, .bf16⟩
  | .hbm, ⟨10, _⟩ => ⟨S8x4x4096x1024x1, .bf16⟩
  | .hbm, ⟨11, _⟩ => ⟨S8x4x4096x1024, .bf16⟩
  | .hbm, ⟨12, _⟩ => ⟨S8x4x4096x1024x1, .bf16⟩
  | .hbm, ⟨13, _⟩ => ⟨S8x4x4096x1024, .bf16⟩
  | .hbm, ⟨14, _⟩ => ⟨S8x4x4096x2048, .bf16⟩
  | .hbm, ⟨15, _⟩ => ⟨S8x4x4096x2048, .f32⟩
  | .hbm, ⟨16, _⟩ => ⟨S8x4x4096, .f32⟩
  | .hbm, ⟨17, _⟩ => ⟨S8x4x4096x1, .f32⟩
  | .hbm, ⟨18, _⟩ => ⟨S8x4x4096x2048, .f32⟩
  | .hbm, ⟨19, _⟩ => ⟨S8x4x4096x2048, .f32⟩
  | .hbm, ⟨20, _⟩ => ⟨S_, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S4x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x2048, .f32⟩
  | .hbm, ⟨41, _⟩ => ⟨S4x4096x2048, .f32⟩
  | .hbm, ⟨42, _⟩ => ⟨S1x1x2048, .f32⟩
  | .hbm, ⟨43, _⟩ => ⟨S4x4096x2048, .f32⟩
  | .hbm, ⟨44, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Gdn.lean ====
abbrev S4x4096x8192 : Shape := ⟨3, ![4, 4096, 8192]⟩
abbrev S4x4096x4096 : Shape := ⟨3, ![4, 4096, 4096]⟩
abbrev S4x4096x128 : Shape := ⟨3, ![4, 4096, 128]⟩
abbrev S4x64x128x128 : Shape := ⟨4, ![4, 64, 128, 128]⟩
abbrev S4x256x8192 : Shape := ⟨3, ![4, 256, 8192]⟩
abbrev S4x256x128 : Shape := ⟨3, ![4, 256, 128]⟩
abbrev S4x4x128x128 : Shape := ⟨4, ![4, 4, 128, 128]⟩
abbrev S1x3x8192 : Shape := ⟨3, ![1, 3, 8192]⟩
abbrev S1x128 : Shape := ⟨2, ![1, 128]⟩
abbrev S3x8192 : Shape := ⟨2, ![3, 8192]⟩
abbrev S4x64x4x16x2x128 : Shape := ⟨6, ![4, 64, 4, 16, 2, 128]⟩
abbrev S4x4x4x16x2x128 : Shape := ⟨6, ![4, 4, 4, 16, 2, 128]⟩
abbrev S1x4096x128 : Shape := ⟨3, ![1, 4096, 128]⟩
abbrev S1x4096x256 : Shape := ⟨3, ![1, 4096, 256]⟩
abbrev S1x64x4x1x2x128 : Shape := ⟨6, ![1, 64, 4, 1, 2, 128]⟩
abbrev S1x256x128 : Shape := ⟨3, ![1, 256, 128]⟩
abbrev S1x256x256 : Shape := ⟨3, ![1, 256, 256]⟩
abbrev S1x4x4x1x2x128 : Shape := ⟨6, ![1, 4, 4, 1, 2, 128]⟩
abbrev S3x128 : Shape := ⟨2, ![3, 128]⟩
abbrev S3x256 : Shape := ⟨2, ![3, 256]⟩
abbrev S4352x128 : Shape := ⟨2, ![4352, 128]⟩
abbrev S4352x256 : Shape := ⟨2, ![4352, 256]⟩
abbrev S4096x256 : Shape := ⟨2, ![4096, 256]⟩
abbrev S4x128x128 : Shape := ⟨3, ![4, 128, 128]⟩
abbrev S2x4x256x128 : Shape := ⟨4, ![2, 4, 256, 128]⟩
abbrev S256x128 : Shape := ⟨2, ![256, 128]⟩
abbrev S1x16x128 : Shape := ⟨3, ![1, 16, 128]⟩
abbrev S16x128 : Shape := ⟨2, ![16, 128]⟩
abbrev S256 : Shape := ⟨1, ![256]⟩
abbrev S256x1 : Shape := ⟨2, ![256, 1]⟩
abbrev S256x256 : Shape := ⟨2, ![256, 256]⟩
abbrev S1x16x256 : Shape := ⟨3, ![1, 16, 256]⟩
abbrev S16x256 : Shape := ⟨2, ![16, 256]⟩
abbrev S1x256 : Shape := ⟨2, ![1, 256]⟩
abbrev S64x128 : Shape := ⟨2, ![64, 128]⟩
abbrev S64x256 : Shape := ⟨2, ![64, 256]⟩
abbrev S128x128 : Shape := ⟨2, ![128, 128]⟩
abbrev S1x64x128 : Shape := ⟨3, ![1, 64, 128]⟩
abbrev S64 : Shape := ⟨1, ![64]⟩
abbrev S64x1 : Shape := ⟨2, ![64, 1]⟩
abbrev S1x1x1x1x1x128 : Shape := ⟨6, ![1, 1, 1, 1, 1, 128]⟩
abbrev S128x256 : Shape := ⟨2, ![128, 256]⟩
abbrev S1x1x64x128 : Shape := ⟨4, ![1, 1, 64, 128]⟩
abbrev S1x1 : Shape := ⟨2, ![1, 1]⟩
abbrev S1x128x128 : Shape := ⟨3, ![1, 128, 128]⟩

abbrev nBuf : Space → Nat
  | .hbm => 13
  | .vmem => 38
  | .smem => 0
  | _ => 0

abbrev bufTy : (tb : Table) → Fin (tcTables nBuf tb) → BufTy
  | .hbm, ⟨0, _⟩ => ⟨S4x4096x8192, .bf16⟩
  | .hbm, ⟨1, _⟩ => ⟨S4x4096x4096, .bf16⟩
  | .hbm, ⟨2, _⟩ => ⟨S4x4096x128, .f32⟩
  | .hbm, ⟨3, _⟩ => ⟨S4x64x128x128, .f32⟩
  | .hbm, ⟨4, _⟩ => ⟨S4x256x8192, .bf16⟩
  | .hbm, ⟨5, _⟩ => ⟨S4x256x128, .f32⟩
  | .hbm, ⟨6, _⟩ => ⟨S4x4x128x128, .f32⟩
  | .hbm, ⟨7, _⟩ => ⟨S1x3x8192, .f32⟩
  | .hbm, ⟨8, _⟩ => ⟨S1x128, .f32⟩
  | .hbm, ⟨9, _⟩ => ⟨S3x8192, .f32⟩
  | .hbm, ⟨10, _⟩ => ⟨S4x64x4x16x2x128, .f32⟩
  | .hbm, ⟨11, _⟩ => ⟨S4x4x4x16x2x128, .f32⟩
  | .hbm, ⟨12, _⟩ => ⟨S4x4096x4096, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x4096x128, .f32⟩
  | .local _ .vmem, ⟨9, _⟩ => ⟨S1x4096x128, .f32⟩
  | .local _ .vmem, ⟨10, _⟩ => ⟨S1x64x4x1x2x128, .f32⟩
  | .local _ .vmem, ⟨11, _⟩ => ⟨S1x64x4x1x2x128, .f32⟩
  | .local _ .vmem, ⟨12, _⟩ => ⟨S1x256x128, .bf16⟩
  | .local _ .vmem, ⟨13, _⟩ => ⟨S1x256x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x256, .bf16⟩
  | .local _ .vmem, ⟨17, _⟩ => ⟨S1x256x256, .bf16⟩
  | .local _ .vmem, ⟨18, _⟩ => ⟨S1x256x128, .f32⟩
  | .local _ .vmem, ⟨19, _⟩ => ⟨S1x256x128, .f32⟩
  | .local _ .vmem, ⟨20, _⟩ => ⟨S1x4x4x1x2x128, .f32⟩
  | .local _ .vmem, ⟨21, _⟩ => ⟨S1x4x4x1x2x128, .f32⟩
  | .local _ .vmem, ⟨22, _⟩ => ⟨S3x128, .f32⟩
  | .local _ .vmem, ⟨23, _⟩ => ⟨S3x128, .f32⟩
  | .local _ .vmem, ⟨24, _⟩ => ⟨S3x128, .f32⟩
  | .local _ .vmem, ⟨25, _⟩ => ⟨S3x128, .f32⟩
  | .local _ .vmem, ⟨26, _⟩ => ⟨S3x256, .f32⟩
  | .local _ .vmem, ⟨27, _⟩ => ⟨S3x256, .f32⟩
  | .local _ .vmem, ⟨28, _⟩ => ⟨S1x128, .f32⟩
  | .local _ .vmem, ⟨29, _⟩ => ⟨S1x4096x256, .bf16⟩
  | .local _ .vmem, ⟨30, _⟩ => ⟨S1x4096x256, .bf16⟩
  | .local _ .vmem, ⟨31, _⟩ => ⟨S4352x128, .f32⟩
  | .local _ .vmem, ⟨32, _⟩ => ⟨S4352x128, .f32⟩
  | .local _ .vmem, ⟨33, _⟩ => ⟨S4352x256, .f32⟩
  | .local _ .vmem, ⟨34, _⟩ => ⟨S4096x256, .f32⟩
  | .local _ .vmem, ⟨35, _⟩ => ⟨S4x128x128, .f32⟩
  | .local _ .vmem, ⟨36, _⟩ => ⟨S2x4x256x128, .f32⟩
  | .local _ .vmem, ⟨37, _⟩ => ⟨S2x4x256x128, .bf16⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  let c256_i32 : BitVec 32 := 256#32
  let v6 : BitVec 32 := Scalar.muli c0_i32 c256_i32
  v6
def k0_mult2 : BitVec 32 :=
  let c0_i32_5 : BitVec 32 := 0#32
  let c0_i32 : BitVec 32 := 0#32
  let c256_i32 : BitVec 32 := 256#32
  let v6 : BitVec 32 := Scalar.muli c0_i32 c256_i32
  let v7 : BitVec 32 := v6
  let v8 : BitVec 32 := Scalar.addi c0_i32_5 v7
  v8
def k0_off1 : Fin 3 → Nat :=
  let c0_6 : Index := 0#32
  let c0_i32 : BitVec 32 := 0#32
  let c256_i32 : BitVec 32 := 256#32
  let v6 : BitVec 32 := Scalar.muli c0_i32 c256_i32
  let v7 : BitVec 32 := v6
  let v10 : Index := Scalar.indexCast v7
  let c0_7 : Index := 0#32
  ![0, v10.toNat, 0]
def k0_mult3 : BitVec 32 :=
  let c0_i32 : BitVec 32 := 0#32
  let c256_i32 : BitVec 32 := 256#32
  let v6 : BitVec 32 := Scalar.muli c0_i32 c256_i32
  let v7 : BitVec 32 := v6
  let c16_i32 : BitVec 32 := 16#32
  let v14 : BitVec 32 := Scalar.subi v7 c16_i32
  let c0_i32_8 : BitVec 32 := 0#32
  let v15 : BitVec 32 := Scalar.maxsi v14 c0_i32_8
  v15
def k0_mult4 : BitVec 32 :=
  let c0_i32 : BitVec 32 := 0#32
  let c256_i32 : BitVec 32 := 256#32
  let v6 : BitVec 32 := Scalar.muli c0_i32 c256_i32
  let v7 : BitVec 32 := v6
  let c256_i32_9 : BitVec 32 := 256#32
  let v17 : BitVec 32 := Scalar.addi v7 c256_i32_9
  let c240_i32 : BitVec 32 := 240#32
  let v18 : BitVec 32 := Scalar.minsi v17 c240_i32
  v18
def k0_off2 : Fin 3 → Nat :=
  let c0_10 : Index := 0#32
  let c0_i32 : BitVec 32 := 0#32
  let c256_i32 : BitVec 32 := 256#32
  let v6 : BitVec 32 := Scalar.muli c0_i32 c256_i32
  let v7 : BitVec 32 := v6
  let c16_i32 : BitVec 32 := 16#32
  let v14 : BitVec 32 := Scalar.subi v7 c16_i32
  let c0_i32_8 : BitVec 32 := 0#32
  let v15 : BitVec 32 := Scalar.maxsi v14 c0_i32_8
  let v16 : BitVec 32 := v15
  let v20 : Index := Scalar.indexCast v16
  let c0_11 : Index := 0#32
  ![0, v20.toNat, 0]
def k0_off3 : Fin 3 → Nat :=
  let c0_12 : Index := 0#32
  let c0_i32 : BitVec 32 := 0#32
  let c256_i32 : BitVec 32 := 256#32
  let v6 : BitVec 32 := Scalar.muli c0_i32 c256_i32
  let v7 : BitVec 32 := v6
  let c256_i32_9 : BitVec 32 := 256#32
  let v17 : BitVec 32 := Scalar.addi v7 c256_i32_9
  let c240_i32 : BitVec 32 := 240#32
  let v18 : BitVec 32 := Scalar.minsi v17 c240_i32
  let v19 : BitVec 32 := v18
  let v25 : Index := Scalar.indexCast v19
  let c0_13 : Index := 0#32
  ![0, v25.toNat, 0]
def k0_off4 : Fin 2 → Nat :=
  let c0_i32_5 : BitVec 32 := 0#32
  let c0_i32 : BitVec 32 := 0#32
  let c256_i32 : BitVec 32 := 256#32
  let v6 : BitVec 32 := Scalar.muli c0_i32 c256_i32
  let v7 : BitVec 32 := v6
  let v8 : BitVec 32 := Scalar.addi c0_i32_5 v7
  let v9 : BitVec 32 := v8
  let v79 : Index := Scalar.indexCast v9
  let c0_26 : Index := 0#32
  ![v79.toNat, 0]
def k0_mult5 : BitVec 32 :=
  let c0_i32 : BitVec 32 := 0#32
  let c256_i32 : BitVec 32 := 256#32
  let v6 : BitVec 32 := Scalar.muli c0_i32 c256_i32
  let v7 : BitVec 32 := v6
  let c16_i32_29 : BitVec 32 := 16#32
  let v87 : BitVec 32 := Scalar.subi v7 c16_i32_29
  let c0_i32_30 : BitVec 32 := 0#32
  let v88 : BitVec 32 := Scalar.maxsi v87 c0_i32_30
  v88
def k0_mult6 : BitVec 32 :=
  let c0_i32 : BitVec 32 := 0#32
  let c256_i32 : BitVec 32 := 256#32
  let v6 : BitVec 32 := Scalar.muli c0_i32 c256_i32
  let v7 : BitVec 32 := v6
  let c256_i32_31 : BitVec 32 := 256#32
  let v90 : BitVec 32 := Scalar.addi v7 c256_i32_31
  let c240_i32_32 : BitVec 32 := 240#32
  let v91 : BitVec 32 := Scalar.minsi v90 c240_i32_32
  v91
def k0_off5 : Fin 3 → Nat :=
  let c0_52 : Index := 0#32
  let c0_i32 : BitVec 32 := 0#32
  let c256_i32 : BitVec 32 := 256#32
  let v6 : BitVec 32 := Scalar.muli c0_i32 c256_i32
  let v7 : BitVec 32 := v6
  let v154 : Index := Scalar.indexCast v7
  let c0_53 : Index := 0#32
  ![0, v154.toNat, 0]
def k0_mult7 : BitVec 32 :=
  let c0_i32 : BitVec 32 := 0#32
  let c256_i32 : BitVec 32 := 256#32
  let v6 : BitVec 32 := Scalar.muli c0_i32 c256_i32
  let v7 : BitVec 32 := v6
  let c16_i32_54 : BitVec 32 := 16#32
  let v158 : BitVec 32 := Scalar.subi v7 c16_i32_54
  let c0_i32_55 : BitVec 32 := 0#32
  let v159 : BitVec 32 := Scalar.maxsi v158 c0_i32_55
  v159
def k0_mult8 : BitVec 32 :=
  let c0_i32 : BitVec 32 := 0#32
  let c256_i32 : BitVec 32 := 256#32
  let v6 : BitVec 32 := Scalar.muli c0_i32 c256_i32
  let v7 : BitVec 32 := v6
  let c256_i32_56 : BitVec 32 := 256#32
  let v161 : BitVec 32 := Scalar.addi v7 c256_i32_56
  let c240_i32_57 : BitVec 32 := 240#32
  let v162 : BitVec 32 := Scalar.minsi v161 c240_i32_57
  v162
def k0_off6 : Fin 3 → Nat :=
  let c0_58 : Index := 0#32
  let c0_i32 : BitVec 32 := 0#32
  let c256_i32 : BitVec 32 := 256#32
  let v6 : BitVec 32 := Scalar.muli c0_i32 c256_i32
  let v7 : BitVec 32 := v6
  let c16_i32_54 : BitVec 32 := 16#32
  let v158 : BitVec 32 := Scalar.subi v7 c16_i32_54
  let c0_i32_55 : BitVec 32 := 0#32
  let v159 : BitVec 32 := Scalar.maxsi v158 c0_i32_55
  let v160 : BitVec 32 := v159
  let v164 : Index := Scalar.indexCast v160
  let c0_59 : Index := 0#32
  ![0, v164.toNat, 0]
def k0_off7 : Fin 3 → Nat :=
  let c0_60 : Index := 0#32
  let c0_i32 : BitVec 32 := 0#32
  let c256_i32 : BitVec 32 := 256#32
  let v6 : BitVec 32 := Scalar.muli c0_i32 c256_i32
  let v7 : BitVec 32 := v6
  let c256_i32_56 : BitVec 32 := 256#32
  let v161 : BitVec 32 := Scalar.addi v7 c256_i32_56
  let c240_i32_57 : BitVec 32 := 240#32
  let v162 : BitVec 32 := Scalar.minsi v161 c240_i32_57
  let v163 : BitVec 32 := v162
  let v169 : Index := Scalar.indexCast v163
  let c0_61 : Index := 0#32
  ![0, v169.toNat, 0]
def k0_off8 : Fin 2 → Nat :=
  let c0_i32_5 : BitVec 32 := 0#32
  let c0_i32 : BitVec 32 := 0#32
  let c256_i32 : BitVec 32 := 256#32
  let v6 : BitVec 32 := Scalar.muli c0_i32 c256_i32
  let v7 : BitVec 32 := v6
  let v8 : BitVec 32 := Scalar.addi c0_i32_5 v7
  let v9 : BitVec 32 := v8
  let v213 : Index := Scalar.indexCast v9
  let c0_74 : Index := 0#32
  ![v213.toNat, 0]
@[reducible] def k0_t1_loop : Scf.Loop 32 :=
  let c0_i32_76 : BitVec 32 := 0#32
  let c16_i32_77 : BitVec 32 := 16#32
  let v217 : BitVec 32 := Scalar.addi c0_i32_76 c16_i32_77
  let c1_i32_78 : BitVec 32 := 1#32
  ⟨c0_i32_76, v217, c1_i32_78⟩
def k0_mult9 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  v5013
def k0_mult10 (k0_t1 : Fin k0_t1_loop.trips) : BitVec 32 :=
  let c256_i32_2354 : BitVec 32 := 256#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let v5015 : BitVec 32 := Scalar.addi c256_i32_2354 v5014
  v5015
def k0_off9 (k0_t1 : Fin k0_t1_loop.trips) : Fin 3 → Nat :=
  let c0_2355 : Index := 0#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let v5017 : Index := Scalar.indexCast v5014
  let c0_2356 : Index := 0#32
  ![0, v5017.toNat, 0]
def k0_mult11 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c16_i32_2357 : BitVec 32 := 16#32
  let v5021 : BitVec 32 := Scalar.subi v5014 c16_i32_2357
  let c0_i32_2358 : BitVec 32 := 0#32
  let v5022 : BitVec 32 := Scalar.maxsi v5021 c0_i32_2358
  v5022
def k0_mult12 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c256_i32_2359 : BitVec 32 := 256#32
  let v5024 : BitVec 32 := Scalar.addi v5014 c256_i32_2359
  let c4080_i32 : BitVec 32 := 4080#32
  let v5025 : BitVec 32 := Scalar.minsi v5024 c4080_i32
  v5025
def k0_off10 (k0_t1 : Fin k0_t1_loop.trips) : Fin 3 → Nat :=
  let c0_2360 : Index := 0#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c16_i32_2357 : BitVec 32 := 16#32
  let v5021 : BitVec 32 := Scalar.subi v5014 c16_i32_2357
  let c0_i32_2358 : BitVec 32 := 0#32
  let v5022 : BitVec 32 := Scalar.maxsi v5021 c0_i32_2358
  let v5023 : BitVec 32 := v5022
  let v5027 : Index := Scalar.indexCast v5023
  let c0_2361 : Index := 0#32
  ![0, v5027.toNat, 0]
def k0_off11 (k0_t1 : Fin k0_t1_loop.trips) : Fin 3 → Nat :=
  let c0_2362 : Index := 0#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c256_i32_2359 : BitVec 32 := 256#32
  let v5024 : BitVec 32 := Scalar.addi v5014 c256_i32_2359
  let c4080_i32 : BitVec 32 := 4080#32
  let v5025 : BitVec 32 := Scalar.minsi v5024 c4080_i32
  let v5026 : BitVec 32 := v5025
  let v5032 : Index := Scalar.indexCast v5026
  let c0_2363 : Index := 0#32
  ![0, v5032.toNat, 0]
def k0_off12 (k0_t1 : Fin k0_t1_loop.trips) : Fin 2 → Nat :=
  let c256_i32_2354 : BitVec 32 := 256#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let v5015 : BitVec 32 := Scalar.addi c256_i32_2354 v5014
  let v5016 : BitVec 32 := v5015
  let v5086 : Index := Scalar.indexCast v5016
  let c0_2379 : Index := 0#32
  ![v5086.toNat, 0]
def k0_mult13 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c16_i32_2382 : BitVec 32 := 16#32
  let v5094 : BitVec 32 := Scalar.subi v5014 c16_i32_2382
  let c0_i32_2383 : BitVec 32 := 0#32
  let v5095 : BitVec 32 := Scalar.maxsi v5094 c0_i32_2383
  v5095
def k0_mult14 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c256_i32_2384 : BitVec 32 := 256#32
  let v5097 : BitVec 32 := Scalar.addi v5014 c256_i32_2384
  let c4080_i32_2385 : BitVec 32 := 4080#32
  let v5098 : BitVec 32 := Scalar.minsi v5097 c4080_i32_2385
  v5098
def k0_off13 (k0_t1 : Fin k0_t1_loop.trips) : Fin 3 → Nat :=
  let c0_2405 : Index := 0#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let v5161 : Index := Scalar.indexCast v5014
  let c0_2406 : Index := 0#32
  ![0, v5161.toNat, 0]
def k0_mult15 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c16_i32_2407 : BitVec 32 := 16#32
  let v5165 : BitVec 32 := Scalar.subi v5014 c16_i32_2407
  let c0_i32_2408 : BitVec 32 := 0#32
  let v5166 : BitVec 32 := Scalar.maxsi v5165 c0_i32_2408
  v5166
def k0_mult16 (k0_t1 : Fin k0_t1_loop.trips) : BitVec 32 :=
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c256_i32_2409 : BitVec 32 := 256#32
  let v5168 : BitVec 32 := Scalar.addi v5014 c256_i32_2409
  let c4080_i32_2410 : BitVec 32 := 4080#32
  let v5169 : BitVec 32 := Scalar.minsi v5168 c4080_i32_2410
  v5169
def k0_off14 (k0_t1 : Fin k0_t1_loop.trips) : Fin 3 → Nat :=
  let c0_2411 : Index := 0#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c16_i32_2407 : BitVec 32 := 16#32
  let v5165 : BitVec 32 := Scalar.subi v5014 c16_i32_2407
  let c0_i32_2408 : BitVec 32 := 0#32
  let v5166 : BitVec 32 := Scalar.maxsi v5165 c0_i32_2408
  let v5167 : BitVec 32 := v5166
  let v5171 : Index := Scalar.indexCast v5167
  let c0_2412 : Index := 0#32
  ![0, v5171.toNat, 0]
def k0_off15 (k0_t1 : Fin k0_t1_loop.trips) : Fin 3 → Nat :=
  let c0_2413 : Index := 0#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let c256_i32_2409 : BitVec 32 := 256#32
  let v5168 : BitVec 32 := Scalar.addi v5014 c256_i32_2409
  let c4080_i32_2410 : BitVec 32 := 4080#32
  let v5169 : BitVec 32 := Scalar.minsi v5168 c4080_i32_2410
  let v5170 : BitVec 32 := v5169
  let v5176 : Index := Scalar.indexCast v5170
  let c0_2414 : Index := 0#32
  ![0, v5176.toNat, 0]
def k0_off16 (k0_t1 : Fin k0_t1_loop.trips) : Fin 2 → Nat :=
  let c256_i32_2354 : BitVec 32 := 256#32
  let c0_i32_76 : BitVec 32 := 0#32
  let c1_i32_78 : BitVec 32 := 1#32
  let arg25 : BitVec 32 := Scf.iv c0_i32_76 c1_i32_78 k0_t1
  let c256_i32_2353 : BitVec 32 := 256#32
  let v5013 : BitVec 32 := Scalar.muli arg25 c256_i32_2353
  let v5014 : BitVec 32 := v5013
  let v5015 : BitVec 32 := Scalar.addi c256_i32_2354 v5014
  let v5016 : BitVec 32 := v5015
  let v5220 : Index := Scalar.indexCast v5016
  let c0_2427 : Index := 0#32
  ![v5220.toNat, 0]
def k0_mult17 : BitVec 32 :=
  let c0_i32_97 : BitVec 32 := 0#32
  c0_i32_97
def k0_mult18 : BitVec 32 :=
  let c0_i32_101 : BitVec 32 := 0#32
  c0_i32_101
def k0_mult19 : BitVec 32 :=
  let c192_i32 : BitVec 32 := 192#32
  c192_i32
def k0_mult20 : BitVec 32 :=
  let c192_i32_140 : BitVec 32 := 192#32
  c192_i32_140
def k0_mult21 : BitVec 32 :=
  let c64_i32_177 : BitVec 32 := 64#32
  c64_i32_177
def k0_mult22 : BitVec 32 :=
  let c64_i32_181 : BitVec 32 := 64#32
  c64_i32_181
def k0_mult23 : BitVec 32 :=
  let c128_i32 : BitVec 32 := 128#32
  c128_i32
def k0_mult24 : BitVec 32 :=
  let c128_i32_223 : BitVec 32 := 128#32
  c128_i32_223
def k0_mult25 : BitVec 32 :=
  let c128_i32_262 : BitVec 32 := 128#32
  c128_i32_262
def k0_mult26 : BitVec 32 :=
  let c128_i32_266 : BitVec 32 := 128#32
  c128_i32_266
def k0_mult27 : BitVec 32 :=
  let c64_i32_305 : BitVec 32 := 64#32
  c64_i32_305
def k0_mult28 : BitVec 32 :=
  let c64_i32_309 : BitVec 32 := 64#32
  c64_i32_309
def k0_mult29 : BitVec 32 :=
  let c192_i32_348 : BitVec 32 := 192#32
  c192_i32_348
def k0_mult30 : BitVec 32 :=
  let c192_i32_352 : BitVec 32 := 192#32
  c192_i32_352
def k0_mult31 : BitVec 32 :=
  let c0_i32_391 : BitVec 32 := 0#32
  c0_i32_391
def k0_mult32 : BitVec 32 :=
  let c0_i32_395 : BitVec 32 := 0#32
  c0_i32_395
def k0_mult33 : BitVec 32 :=
  let c0_i32_751 : BitVec 32 := 0#32
  c0_i32_751
def k0_mult34 : BitVec 32 :=
  let c0_i32_752 : BitVec 32 := 0#32
  c0_i32_752
def k0_mult35 : BitVec 32 :=
  let c192_i32_774 : BitVec 32 := 192#32
  c192_i32_774
def k0_mult36 : BitVec 32 :=
  let c192_i32_775 : BitVec 32 := 192#32
  c192_i32_775
def k0_mult37 : BitVec 32 :=
  let c256_i32_797 : BitVec 32 := 256#32
  c256_i32_797
def k0_mult38 : BitVec 32 :=
  let c0_i32_801 : BitVec 32 := 0#32
  c0_i32_801
def k0_mult39 : BitVec 32 :=
  let c4288_i32 : BitVec 32 := 4288#32
  c4288_i32
def k0_mult40 : BitVec 32 :=
  let c4032_i32 : BitVec 32 := 4032#32
  c4032_i32
def k0_mult41 : BitVec 32 :=
  let c320_i32 : BitVec 32 := 320#32
  c320_i32
def k0_mult42 : BitVec 32 :=
  let c64_i32_883 : BitVec 32 := 64#32
  c64_i32_883
def k0_mult43 : BitVec 32 :=
  let c4224_i32 : BitVec 32 := 4224#32
  c4224_i32
def k0_mult44 : BitVec 32 :=
  let c3968_i32 : BitVec 32 := 3968#32
  c3968_i32
def k0_mult45 : BitVec 32 :=
  let c384_i32 : BitVec 32 := 384#32
  c384_i32
def k0_mult46 : BitVec 32 :=
  let c128_i32_965 : BitVec 32 := 128#32
  c128_i32_965
def k0_mult47 : BitVec 32 :=
  let c4160_i32 : BitVec 32 := 4160#32
  c4160_i32
def k0_mult48 : BitVec 32 :=
  let c3904_i32 : BitVec 32 := 3904#32
  c3904_i32
def k0_mult49 : BitVec 32 :=
  let c448_i32 : BitVec 32 := 448#32
  c448_i32
def k0_mult50 : BitVec 32 :=
  let c192_i32_1047 : BitVec 32 := 192#32
  c192_i32_1047
def k0_mult51 : BitVec 32 :=
  let c4096_i32 : BitVec 32 := 4096#32
  c4096_i32
def k0_mult52 : BitVec 32 :=
  let c3840_i32 : BitVec 32 := 3840#32
  c3840_i32
def k0_mult53 : BitVec 32 :=
  let c64_i32_1206 : BitVec 32 := 64#32
  c64_i32_1206
def k0_mult54 : BitVec 32 :=
  let c64_i32_1207 : BitVec 32 := 64#32
  c64_i32_1207
def k0_mult55 : BitVec 32 :=
  let c128_i32_1229 : BitVec 32 := 128#32
  c128_i32_1229
def k0_mult56 : BitVec 32 :=
  let c128_i32_1230 : BitVec 32 := 128#32
  c128_i32_1230
def k0_mult57 : BitVec 32 :=
  let c128_i32_1364 : BitVec 32 := 128#32
  c128_i32_1364
def k0_mult58 : BitVec 32 :=
  let c128_i32_1365 : BitVec 32 := 128#32
  c128_i32_1365
def k0_mult59 : BitVec 32 :=
  let c64_i32_1387 : BitVec 32 := 64#32
  c64_i32_1387
def k0_mult60 : BitVec 32 :=
  let c64_i32_1388 : BitVec 32 := 64#32
  c64_i32_1388
def k0_mult61 : BitVec 32 :=
  let c192_i32_1522 : BitVec 32 := 192#32
  c192_i32_1522
def k0_mult62 : BitVec 32 :=
  let c192_i32_1523 : BitVec 32 := 192#32
  c192_i32_1523
def k0_mult63 : BitVec 32 :=
  let c0_i32_1545 : BitVec 32 := 0#32
  c0_i32_1545
def k0_mult64 : BitVec 32 :=
  let c0_i32_1546 : BitVec 32 := 0#32
  c0_i32_1546
@[reducible] def k0_t2_loop : Scf.Loop 32 :=
  let c0_i32_1776 : BitVec 32 := 0#32
  let c15_i32 : BitVec 32 := 15#32
  let v3898 : BitVec 32 := Scalar.addi c0_i32_1776 c15_i32
  let c1_i32_1777 : BitVec 32 := 1#32
  ⟨c0_i32_1776, v3898, c1_i32_1777⟩
def k0_mult65 (k0_t2 : Fin k0_t2_loop.trips) : BitVec 32 :=
  let c256_i32_2371 : BitVec 32 := 256#32
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let c0_i32_2369 : BitVec 32 := 0#32
  let v5038 : BitVec 32 := Scalar.addi v5037 c0_i32_2369
  let c64_i32_2370 : BitVec 32 := 64#32
  let v5039 : BitVec 32 := Scalar.muli v5038 c64_i32_2370
  let v5040 : BitVec 32 := Scalar.addi c256_i32_2371 v5039
  v5040
def k0_mult66 (k0_t2 : Fin k0_t2_loop.trips) : BitVec 32 :=
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let c0_i32_2369 : BitVec 32 := 0#32
  let v5038 : BitVec 32 := Scalar.addi v5037 c0_i32_2369
  let c64_i32_2372 : BitVec 32 := 64#32
  let v5042 : BitVec 32 := Scalar.muli v5038 c64_i32_2372
  v5042
def k0_off17 (k0_t2 : Fin k0_t2_loop.trips) (c0_i32_2369 : BitVec 32) : Fin 2 → Nat :=
  let c256_i32_2371 : BitVec 32 := 256#32
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let v5038 : BitVec 32 := Scalar.addi v5037 c0_i32_2369
  let c64_i32_2370 : BitVec 32 := 64#32
  let v5039 : BitVec 32 := Scalar.muli v5038 c64_i32_2370
  let v5040 : BitVec 32 := Scalar.addi c256_i32_2371 v5039
  let v5041 : BitVec 32 := v5040
  let v5044 : Index := Scalar.indexCast v5041
  let c0_2373 : Index := 0#32
  ![v5044.toNat, 0]
def k0_off18 (k0_t2 : Fin k0_t2_loop.trips) (c0_i32_2369 : BitVec 32) : Fin 3 → Nat :=
  let c0_2374 : Index := 0#32
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let v5038 : BitVec 32 := Scalar.addi v5037 c0_i32_2369
  let c64_i32_2372 : BitVec 32 := 64#32
  let v5042 : BitVec 32 := Scalar.muli v5038 c64_i32_2372
  let v5043 : BitVec 32 := v5042
  let v5046 : Index := Scalar.indexCast v5043
  let c0_2375 : Index := 0#32
  ![0, v5046.toNat, 0]
def k0_off19 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v5071 : Index := Scalar.indexCast v5023
  let c0_2383 : Index := 0#32
  let c0_2384 : Index := 0#32
  let c0_2385 : Index := 0#32
  ![v5071.toNat, 0, 0, 0]
def k0_off20 (k0_t2 : Fin k0_t2_loop.trips) (c0_i32_2369 : BitVec 32) : Fin 6 → Nat :=
  let c0_2386 : Index := 0#32
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let v5038 : BitVec 32 := Scalar.addi v5037 c0_i32_2369
  let v5074 : Index := Scalar.indexCast v5038
  let c0_2387 : Index := 0#32
  let c0_2388 : Index := 0#32
  let c0_2389 : Index := 0#32
  let c0_2390 : Index := 0#32
  ![0, v5074.toNat, 0, 0, 0, 0]
def k0_off21 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v5108 : Index := Scalar.indexCast v5023
  let c1_2398 : Index := 1#32
  let c0_2399 : Index := 0#32
  let c0_2400 : Index := 0#32
  ![v5108.toNat, 1, 0, 0]
def k0_off22 (k0_t2 : Fin k0_t2_loop.trips) (c0_i32_2369 : BitVec 32) : Fin 6 → Nat :=
  let c0_2401 : Index := 0#32
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let v5038 : BitVec 32 := Scalar.addi v5037 c0_i32_2369
  let v5111 : Index := Scalar.indexCast v5038
  let c0_2402 : Index := 0#32
  let c0_2403 : Index := 0#32
  let c1_2404 : Index := 1#32
  let c0_2405 : Index := 0#32
  ![0, v5111.toNat, 0, 0, 1, 0]
def k0_mult67 (k0_t2 : Fin k0_t2_loop.trips) : BitVec 32 :=
  let c256_i32_2411 : BitVec 32 := 256#32
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let c0_i32_2409 : BitVec 32 := 0#32
  let v5131 : BitVec 32 := Scalar.subi v5130 c0_i32_2409
  let c64_i32_2410 : BitVec 32 := 64#32
  let v5132 : BitVec 32 := Scalar.muli v5131 c64_i32_2410
  let v5133 : BitVec 32 := Scalar.addi c256_i32_2411 v5132
  v5133
def k0_mult68 (k0_t2 : Fin k0_t2_loop.trips) : BitVec 32 :=
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let c0_i32_2409 : BitVec 32 := 0#32
  let v5131 : BitVec 32 := Scalar.subi v5130 c0_i32_2409
  let c64_i32_2412 : BitVec 32 := 64#32
  let v5135 : BitVec 32 := Scalar.muli v5131 c64_i32_2412
  v5135
def k0_off23 (k0_t2 : Fin k0_t2_loop.trips) (c0_i32_2409 : BitVec 32) : Fin 2 → Nat :=
  let c256_i32_2411 : BitVec 32 := 256#32
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let v5131 : BitVec 32 := Scalar.subi v5130 c0_i32_2409
  let c64_i32_2410 : BitVec 32 := 64#32
  let v5132 : BitVec 32 := Scalar.muli v5131 c64_i32_2410
  let v5133 : BitVec 32 := Scalar.addi c256_i32_2411 v5132
  let v5134 : BitVec 32 := v5133
  let v5137 : Index := Scalar.indexCast v5134
  let c0_2413 : Index := 0#32
  ![v5137.toNat, 0]
def k0_off24 (k0_t2 : Fin k0_t2_loop.trips) (c0_i32_2409 : BitVec 32) : Fin 3 → Nat :=
  let c0_2414 : Index := 0#32
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let v5131 : BitVec 32 := Scalar.subi v5130 c0_i32_2409
  let c64_i32_2412 : BitVec 32 := 64#32
  let v5135 : BitVec 32 := Scalar.muli v5131 c64_i32_2412
  let v5136 : BitVec 32 := v5135
  let v5139 : Index := Scalar.indexCast v5136
  let c0_2415 : Index := 0#32
  ![0, v5139.toNat, 0]
def k0_off25 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v5164 : Index := Scalar.indexCast v5023
  let c2_2423 : Index := 2#32
  let c0_2424 : Index := 0#32
  let c0_2425 : Index := 0#32
  ![v5164.toNat, 2, 0, 0]
def k0_off26 (k0_t2 : Fin k0_t2_loop.trips) (c0_i32_2409 : BitVec 32) : Fin 6 → Nat :=
  let c0_2426 : Index := 0#32
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let v5131 : BitVec 32 := Scalar.subi v5130 c0_i32_2409
  let v5167 : Index := Scalar.indexCast v5131
  let c2_2427 : Index := 2#32
  let c0_2428 : Index := 0#32
  let c0_2429 : Index := 0#32
  let c0_2430 : Index := 0#32
  ![0, v5167.toNat, 2, 0, 0, 0]
def k0_off27 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v5201 : Index := Scalar.indexCast v5023
  let c3_2438 : Index := 3#32
  let c0_2439 : Index := 0#32
  let c0_2440 : Index := 0#32
  ![v5201.toNat, 3, 0, 0]
def k0_off28 (k0_t2 : Fin k0_t2_loop.trips) (c0_i32_2409 : BitVec 32) : Fin 6 → Nat :=
  let c0_2441 : Index := 0#32
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let v5131 : BitVec 32 := Scalar.subi v5130 c0_i32_2409
  let v5204 : Index := Scalar.indexCast v5131
  let c2_2442 : Index := 2#32
  let c0_2443 : Index := 0#32
  let c1_2444 : Index := 1#32
  let c0_2445 : Index := 0#32
  ![0, v5204.toNat, 2, 0, 1, 0]
def k0_mult69 (k0_t2 : Fin k0_t2_loop.trips) : BitVec 32 :=
  let c256_i32_2451 : BitVec 32 := 256#32
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let c0_i32_2449 : BitVec 32 := 0#32
  let v5223 : BitVec 32 := Scalar.addi v5222 c0_i32_2449
  let c64_i32_2450 : BitVec 32 := 64#32
  let v5224 : BitVec 32 := Scalar.muli v5223 c64_i32_2450
  let v5225 : BitVec 32 := Scalar.addi c256_i32_2451 v5224
  v5225
def k0_off29 (k0_t2 : Fin k0_t2_loop.trips) (c0_i32_2449 : BitVec 32) : Fin 2 → Nat :=
  let c256_i32_2451 : BitVec 32 := 256#32
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let v5223 : BitVec 32 := Scalar.addi v5222 c0_i32_2449
  let c64_i32_2450 : BitVec 32 := 64#32
  let v5224 : BitVec 32 := Scalar.muli v5223 c64_i32_2450
  let v5225 : BitVec 32 := Scalar.addi c256_i32_2451 v5224
  let v5226 : BitVec 32 := v5225
  let v5227 : Index := Scalar.indexCast v5226
  let c0_2452 : Index := 0#32
  ![v5227.toNat, 0]
def k0_off30 (k0_t2 : Fin k0_t2_loop.trips) (c0_i32_2449 : BitVec 32) : Fin 2 → Nat :=
  let c256_i32_2451 : BitVec 32 := 256#32
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let v5223 : BitVec 32 := Scalar.addi v5222 c0_i32_2449
  let c64_i32_2450 : BitVec 32 := 64#32
  let v5224 : BitVec 32 := Scalar.muli v5223 c64_i32_2450
  let v5225 : BitVec 32 := Scalar.addi c256_i32_2451 v5224
  let v5226 : BitVec 32 := v5225
  let v5229 : Index := Scalar.indexCast v5226
  let c0_2453 : Index := 0#32
  ![v5229.toNat, 0]
def k0_mult70 (k0_t2 : Fin k0_t2_loop.trips) : BitVec 32 :=
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let c0_i32_2449 : BitVec 32 := 0#32
  let v5223 : BitVec 32 := Scalar.addi v5222 c0_i32_2449
  let c64_i32_2455 : BitVec 32 := 64#32
  let v5234 : BitVec 32 := Scalar.muli v5223 c64_i32_2455
  v5234
def k0_off31 (k0_t2 : Fin k0_t2_loop.trips) (c0_i32_2449 : BitVec 32) : Fin 3 → Nat :=
  let c0_2456 : Index := 0#32
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let v5223 : BitVec 32 := Scalar.addi v5222 c0_i32_2449
  let c64_i32_2455 : BitVec 32 := 64#32
  let v5234 : BitVec 32 := Scalar.muli v5223 c64_i32_2455
  let v5235 : BitVec 32 := v5234
  let v5236 : Index := Scalar.indexCast v5235
  let c0_2457 : Index := 0#32
  ![0, v5236.toNat, 0]
def k0_off32 (k0_t2 : Fin k0_t2_loop.trips) (c0_i32_2449 : BitVec 32) : Fin 6 → Nat :=
  let c0_2466 : Index := 0#32
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let v5223 : BitVec 32 := Scalar.addi v5222 c0_i32_2449
  let v5255 : Index := Scalar.indexCast v5223
  let c0_2467 : Index := 0#32
  let c0_2468 : Index := 0#32
  let c0_2469 : Index := 0#32
  let c0_2470 : Index := 0#32
  ![0, v5255.toNat, 0, 0, 0, 0]
def k0_off33 (k0_t2 : Fin k0_t2_loop.trips) (c0_i32_2449 : BitVec 32) : Fin 6 → Nat :=
  let c0_2483 : Index := 0#32
  let c4_i32_2448 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5222 : BitVec 32 := Scalar.muli c4_i32_2448 v5024
  let v5223 : BitVec 32 := Scalar.addi v5222 c0_i32_2449
  let v5299 : Index := Scalar.indexCast v5223
  let c0_2484 : Index := 0#32
  let c0_2485 : Index := 0#32
  let c1_2486 : Index := 1#32
  let c0_2487 : Index := 0#32
  ![0, v5299.toNat, 0, 0, 1, 0]
def k0_mult71 (k0_t2 : Fin k0_t2_loop.trips) : BitVec 32 :=
  let c256_i32_2496 : BitVec 32 := 256#32
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let c0_i32_2494 : BitVec 32 := 0#32
  let v5329 : BitVec 32 := Scalar.subi v5328 c0_i32_2494
  let c64_i32_2495 : BitVec 32 := 64#32
  let v5330 : BitVec 32 := Scalar.muli v5329 c64_i32_2495
  let v5331 : BitVec 32 := Scalar.addi c256_i32_2496 v5330
  v5331
def k0_off34 (k0_t2 : Fin k0_t2_loop.trips) (c0_i32_2494 : BitVec 32) : Fin 2 → Nat :=
  let c256_i32_2496 : BitVec 32 := 256#32
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let v5329 : BitVec 32 := Scalar.subi v5328 c0_i32_2494
  let c64_i32_2495 : BitVec 32 := 64#32
  let v5330 : BitVec 32 := Scalar.muli v5329 c64_i32_2495
  let v5331 : BitVec 32 := Scalar.addi c256_i32_2496 v5330
  let v5332 : BitVec 32 := v5331
  let v5333 : Index := Scalar.indexCast v5332
  let c0_2497 : Index := 0#32
  ![v5333.toNat, 0]
def k0_off35 (k0_t2 : Fin k0_t2_loop.trips) (c0_i32_2494 : BitVec 32) : Fin 2 → Nat :=
  let c256_i32_2496 : BitVec 32 := 256#32
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let v5329 : BitVec 32 := Scalar.subi v5328 c0_i32_2494
  let c64_i32_2495 : BitVec 32 := 64#32
  let v5330 : BitVec 32 := Scalar.muli v5329 c64_i32_2495
  let v5331 : BitVec 32 := Scalar.addi c256_i32_2496 v5330
  let v5332 : BitVec 32 := v5331
  let v5335 : Index := Scalar.indexCast v5332
  let c0_2498 : Index := 0#32
  ![v5335.toNat, 0]
def k0_mult72 (k0_t2 : Fin k0_t2_loop.trips) : BitVec 32 :=
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let c0_i32_2494 : BitVec 32 := 0#32
  let v5329 : BitVec 32 := Scalar.subi v5328 c0_i32_2494
  let c64_i32_2500 : BitVec 32 := 64#32
  let v5340 : BitVec 32 := Scalar.muli v5329 c64_i32_2500
  v5340
def k0_off36 (k0_t2 : Fin k0_t2_loop.trips) (c0_i32_2494 : BitVec 32) : Fin 3 → Nat :=
  let c0_2501 : Index := 0#32
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let v5329 : BitVec 32 := Scalar.subi v5328 c0_i32_2494
  let c64_i32_2500 : BitVec 32 := 64#32
  let v5340 : BitVec 32 := Scalar.muli v5329 c64_i32_2500
  let v5341 : BitVec 32 := v5340
  let v5342 : Index := Scalar.indexCast v5341
  let c0_2502 : Index := 0#32
  ![0, v5342.toNat, 0]
def k0_off37 (k0_t2 : Fin k0_t2_loop.trips) (c0_i32_2494 : BitVec 32) : Fin 6 → Nat :=
  let c0_2511 : Index := 0#32
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let v5329 : BitVec 32 := Scalar.subi v5328 c0_i32_2494
  let v5361 : Index := Scalar.indexCast v5329
  let c2_2512 : Index := 2#32
  let c0_2513 : Index := 0#32
  let c0_2514 : Index := 0#32
  let c0_2515 : Index := 0#32
  ![0, v5361.toNat, 2, 0, 0, 0]
def k0_off38 (k0_t2 : Fin k0_t2_loop.trips) (c0_i32_2494 : BitVec 32) : Fin 6 → Nat :=
  let c0_2528 : Index := 0#32
  let c63_i32_2493 : BitVec 32 := 63#32
  let c4_i32_2492 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5327 : BitVec 32 := Scalar.muli c4_i32_2492 v5024
  let v5328 : BitVec 32 := Scalar.subi c63_i32_2493 v5327
  let v5329 : BitVec 32 := Scalar.subi v5328 c0_i32_2494
  let v5405 : Index := Scalar.indexCast v5329
  let c2_2529 : Index := 2#32
  let c0_2530 : Index := 0#32
  let c1_2531 : Index := 1#32
  let c0_2532 : Index := 0#32
  ![0, v5405.toNat, 2, 0, 1, 0]
def k0_mult73 (k0_t2 : Fin k0_t2_loop.trips) : BitVec 32 :=
  let c256_i32_2540 : BitVec 32 := 256#32
  let c4_i32_2537 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5433 : BitVec 32 := Scalar.muli c4_i32_2537 v5024
  let c1_i32_2538 : BitVec 32 := 1#32
  let v5434 : BitVec 32 := Scalar.addi v5433 c1_i32_2538
  let c64_i32_2539 : BitVec 32 := 64#32
  let v5435 : BitVec 32 := Scalar.muli v5434 c64_i32_2539
  let v5436 : BitVec 32 := Scalar.addi c256_i32_2540 v5435
  v5436
def k0_mult74 (k0_t2 : Fin k0_t2_loop.trips) : BitVec 32 :=
  let c4_i32_2537 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5433 : BitVec 32 := Scalar.muli c4_i32_2537 v5024
  let c1_i32_2538 : BitVec 32 := 1#32
  let v5434 : BitVec 32 := Scalar.addi v5433 c1_i32_2538
  let c64_i32_2544 : BitVec 32 := 64#32
  let v5445 : BitVec 32 := Scalar.muli v5434 c64_i32_2544
  v5445
def k0_mult75 (k0_t2 : Fin k0_t2_loop.trips) : BitVec 32 :=
  let c256_i32_2585 : BitVec 32 := 256#32
  let c63_i32_2582 : BitVec 32 := 63#32
  let c4_i32_2581 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5538 : BitVec 32 := Scalar.muli c4_i32_2581 v5024
  let v5539 : BitVec 32 := Scalar.subi c63_i32_2582 v5538
  let c1_i32_2583 : BitVec 32 := 1#32
  let v5540 : BitVec 32 := Scalar.subi v5539 c1_i32_2583
  let c64_i32_2584 : BitVec 32 := 64#32
  let v5541 : BitVec 32 := Scalar.muli v5540 c64_i32_2584
  let v5542 : BitVec 32 := Scalar.addi c256_i32_2585 v5541
  v5542
def k0_mult76 (k0_t2 : Fin k0_t2_loop.trips) : BitVec 32 :=
  let c63_i32_2582 : BitVec 32 := 63#32
  let c4_i32_2581 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5538 : BitVec 32 := Scalar.muli c4_i32_2581 v5024
  let v5539 : BitVec 32 := Scalar.subi c63_i32_2582 v5538
  let c1_i32_2583 : BitVec 32 := 1#32
  let v5540 : BitVec 32 := Scalar.subi v5539 c1_i32_2583
  let c64_i32_2589 : BitVec 32 := 64#32
  let v5551 : BitVec 32 := Scalar.muli v5540 c64_i32_2589
  v5551
def k0_mult77 (k0_t2 : Fin k0_t2_loop.trips) : BitVec 32 :=
  let c256_i32_2629 : BitVec 32 := 256#32
  let c4_i32_2626 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5644 : BitVec 32 := Scalar.muli c4_i32_2626 v5024
  let c2_i32_2627 : BitVec 32 := 2#32
  let v5645 : BitVec 32 := Scalar.addi v5644 c2_i32_2627
  let c64_i32_2628 : BitVec 32 := 64#32
  let v5646 : BitVec 32 := Scalar.muli v5645 c64_i32_2628
  let v5647 : BitVec 32 := Scalar.addi c256_i32_2629 v5646
  v5647
def k0_mult78 (k0_t2 : Fin k0_t2_loop.trips) : BitVec 32 :=
  let c4_i32_2626 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5644 : BitVec 32 := Scalar.muli c4_i32_2626 v5024
  let c2_i32_2627 : BitVec 32 := 2#32
  let v5645 : BitVec 32 := Scalar.addi v5644 c2_i32_2627
  let c64_i32_2633 : BitVec 32 := 64#32
  let v5656 : BitVec 32 := Scalar.muli v5645 c64_i32_2633
  v5656
def k0_mult79 (k0_t2 : Fin k0_t2_loop.trips) : BitVec 32 :=
  let c256_i32_2674 : BitVec 32 := 256#32
  let c63_i32_2671 : BitVec 32 := 63#32
  let c4_i32_2670 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5749 : BitVec 32 := Scalar.muli c4_i32_2670 v5024
  let v5750 : BitVec 32 := Scalar.subi c63_i32_2671 v5749
  let c2_i32_2672 : BitVec 32 := 2#32
  let v5751 : BitVec 32 := Scalar.subi v5750 c2_i32_2672
  let c64_i32_2673 : BitVec 32 := 64#32
  let v5752 : BitVec 32 := Scalar.muli v5751 c64_i32_2673
  let v5753 : BitVec 32 := Scalar.addi c256_i32_2674 v5752
  v5753
def k0_mult80 (k0_t2 : Fin k0_t2_loop.trips) : BitVec 32 :=
  let c63_i32_2671 : BitVec 32 := 63#32
  let c4_i32_2670 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5749 : BitVec 32 := Scalar.muli c4_i32_2670 v5024
  let v5750 : BitVec 32 := Scalar.subi c63_i32_2671 v5749
  let c2_i32_2672 : BitVec 32 := 2#32
  let v5751 : BitVec 32 := Scalar.subi v5750 c2_i32_2672
  let c64_i32_2678 : BitVec 32 := 64#32
  let v5762 : BitVec 32 := Scalar.muli v5751 c64_i32_2678
  v5762
def k0_mult81 (k0_t2 : Fin k0_t2_loop.trips) : BitVec 32 :=
  let c256_i32_2717 : BitVec 32 := 256#32
  let c4_i32_2715 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5855 : BitVec 32 := Scalar.muli c4_i32_2715 v5024
  let c3_i32 : BitVec 32 := 3#32
  let v5856 : BitVec 32 := Scalar.addi v5855 c3_i32
  let c64_i32_2716 : BitVec 32 := 64#32
  let v5857 : BitVec 32 := Scalar.muli v5856 c64_i32_2716
  let v5858 : BitVec 32 := Scalar.addi c256_i32_2717 v5857
  v5858
def k0_mult82 (k0_t2 : Fin k0_t2_loop.trips) : BitVec 32 :=
  let c4_i32_2715 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5855 : BitVec 32 := Scalar.muli c4_i32_2715 v5024
  let c3_i32 : BitVec 32 := 3#32
  let v5856 : BitVec 32 := Scalar.addi v5855 c3_i32
  let c64_i32_2721 : BitVec 32 := 64#32
  let v5867 : BitVec 32 := Scalar.muli v5856 c64_i32_2721
  v5867
def k0_mult83 (k0_t2 : Fin k0_t2_loop.trips) : BitVec 32 :=
  let c256_i32_2762 : BitVec 32 := 256#32
  let c63_i32_2759 : BitVec 32 := 63#32
  let c4_i32_2758 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5960 : BitVec 32 := Scalar.muli c4_i32_2758 v5024
  let v5961 : BitVec 32 := Scalar.subi c63_i32_2759 v5960
  let c3_i32_2760 : BitVec 32 := 3#32
  let v5962 : BitVec 32 := Scalar.subi v5961 c3_i32_2760
  let c64_i32_2761 : BitVec 32 := 64#32
  let v5963 : BitVec 32 := Scalar.muli v5962 c64_i32_2761
  let v5964 : BitVec 32 := Scalar.addi c256_i32_2762 v5963
  v5964
def k0_mult84 (k0_t2 : Fin k0_t2_loop.trips) : BitVec 32 :=
  let c63_i32_2759 : BitVec 32 := 63#32
  let c4_i32_2758 : BitVec 32 := 4#32
  let c0_i32_1776 : BitVec 32 := 0#32
  let c1_i32_1777 : BitVec 32 := 1#32
  let arg25 : BitVec 32 := Scf.iv c0_i32_1776 c1_i32_1777 k0_t2
  let c1_i32_2360 : BitVec 32 := 1#32
  let v5024 : BitVec 32 := Scalar.addi arg25 c1_i32_2360
  let v5960 : BitVec 32 := Scalar.muli c4_i32_2758 v5024
  let v5961 : BitVec 32 := Scalar.subi c63_i32_2759 v5960
  let c3_i32_2760 : BitVec 32 := 3#32
  let v5962 : BitVec 32 := Scalar.subi v5961 c3_i32_2760
  let c64_i32_2766 : BitVec 32 := 64#32
  let v5973 : BitVec 32 := Scalar.muli v5962 c64_i32_2766
  v5973
def k0_off39 (k0_t2 : Fin k0_t2_loop.trips) (c0_i32_2369 : BitVec 32) : Fin 2 → Nat :=
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let v5038 : BitVec 32 := Scalar.addi v5037 c0_i32_2369
  let c64_i32_2372 : BitVec 32 := 64#32
  let v5042 : BitVec 32 := Scalar.muli v5038 c64_i32_2372
  let v5043 : BitVec 32 := v5042
  let v6188 : Index := Scalar.indexCast v5043
  let c0_2855 : Index := 0#32
  ![v6188.toNat, 0]
def k0_off40 (k0_t2 : Fin k0_t2_loop.trips) (c0_i32_2369 : BitVec 32) : Fin 2 → Nat :=
  let c4_i32 : BitVec 32 := 4#32
  let c0_i32_1776 : BitVec 32 := 0#32
  let c1_i32_1777 : BitVec 32 := 1#32
  let arg25 : BitVec 32 := Scf.iv c0_i32_1776 c1_i32_1777 k0_t2
  let v5037 : BitVec 32 := Scalar.muli c4_i32 arg25
  let v5038 : BitVec 32 := Scalar.addi v5037 c0_i32_2369
  let c64_i32_2372 : BitVec 32 := 64#32
  let v5042 : BitVec 32 := Scalar.muli v5038 c64_i32_2372
  let v5043 : BitVec 32 := v5042
  let v6213 : Index := Scalar.indexCast v5043
  let c128_2865 : Index := 128#32
  ![v6213.toNat, 128]
def k0_off41 (k0_t2 : Fin k0_t2_loop.trips) (c0_i32_2409 : BitVec 32) : Fin 2 → Nat :=
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let v5131 : BitVec 32 := Scalar.subi v5130 c0_i32_2409
  let c64_i32_2412 : BitVec 32 := 64#32
  let v5135 : BitVec 32 := Scalar.muli v5131 c64_i32_2412
  let v5136 : BitVec 32 := v5135
  let v6238 : Index := Scalar.indexCast v5136
  let c0_2875 : Index := 0#32
  ![v6238.toNat, 0]
def k0_off42 (k0_t2 : Fin k0_t2_loop.trips) (c0_i32_2409 : BitVec 32) : Fin 2 → Nat :=
  let c63_i32 : BitVec 32 := 63#32
  let c4_i32_2408 : BitVec 32 := 4#32
  let c0_i32_1776 : BitVec 32 := 0#32
  let c1_i32_1777 : BitVec 32 := 1#32
  let arg25 : BitVec 32 := Scf.iv c0_i32_1776 c1_i32_1777 k0_t2
  let v5129 : BitVec 32 := Scalar.muli c4_i32_2408 arg25
  let v5130 : BitVec 32 := Scalar.subi c63_i32 v5129
  let v5131 : BitVec 32 := Scalar.subi v5130 c0_i32_2409
  let c64_i32_2412 : BitVec 32 := 64#32
  let v5135 : BitVec 32 := Scalar.muli v5131 c64_i32_2412
  let v5136 : BitVec 32 := v5135
  let v6263 : Index := Scalar.indexCast v5136
  let c128_2885 : Index := 128#32
  ![v6263.toNat, 128]
def k0_mult85 (k0_t2 : Fin k0_t2_loop.trips) : BitVec 32 :=
  let c256_i32_2894 : BitVec 32 := 256#32
  let c4_i32_2891 : BitVec 32 := 4#32
  let c0_i32_1776 : BitVec 32 := 0#32
  let c1_i32_1777 : BitVec 32 := 1#32
  let arg25 : BitVec 32 := Scf.iv c0_i32_1776 c1_i32_1777 k0_t2
  let v6278 : BitVec 32 := Scalar.muli c4_i32_2891 arg25
  let c1_i32_2892 : BitVec 32 := 1#32
  let v6279 : BitVec 32 := Scalar.addi v6278 c1_i32_2892
  let c64_i32_2893 : BitVec 32 := 64#32
  let v6280 : BitVec 32 := Scalar.muli v6279 c64_i32_2893
  let v6281 : BitVec 32 := Scalar.addi c256_i32_2894 v6280
  v6281
def k0_mult86 (k0_t2 : Fin k0_t2_loop.trips) : BitVec 32 :=
  let c4_i32_2891 : BitVec 32 := 4#32
  let c0_i32_1776 : BitVec 32 := 0#32
  let c1_i32_1777 : BitVec 32 := 1#32
  let arg25 : BitVec 32 := Scf.iv c0_i32_1776 c1_i32_1777 k0_t2
  let v6278 : BitVec 32 := Scalar.muli c4_i32_2891 arg25
  let c1_i32_2892 : BitVec 32 := 1#32
  let v6279 : BitVec 32 := Scalar.addi v6278 c1_i32_2892
  let c64_i32_2895 : BitVec 32 := 64#32
  let v6283 : BitVec 32 := Scalar.muli v6279 c64_i32_2895
  v6283
def k0_off43 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6312 : Index := Scalar.indexCast v5023
  let c0_2906 : Index := 0#32
  let c64_2907 : Index := 64#32
  let c0_2908 : Index := 0#32
  ![v6312.toNat, 0, 64, 0]
def k0_off44 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6349 : Index := Scalar.indexCast v5023
  let c1_2921 : Index := 1#32
  let c64_2922 : Index := 64#32
  let c0_2923 : Index := 0#32
  ![v6349.toNat, 1, 64, 0]
def k0_mult87 (k0_t2 : Fin k0_t2_loop.trips) : BitVec 32 :=
  let c256_i32_2935 : BitVec 32 := 256#32
  let c63_i32_2932 : BitVec 32 := 63#32
  let c4_i32_2931 : BitVec 32 := 4#32
  let c0_i32_1776 : BitVec 32 := 0#32
  let c1_i32_1777 : BitVec 32 := 1#32
  let arg25 : BitVec 32 := Scf.iv c0_i32_1776 c1_i32_1777 k0_t2
  let v6370 : BitVec 32 := Scalar.muli c4_i32_2931 arg25
  let v6371 : BitVec 32 := Scalar.subi c63_i32_2932 v6370
  let c1_i32_2933 : BitVec 32 := 1#32
  let v6372 : BitVec 32 := Scalar.subi v6371 c1_i32_2933
  let c64_i32_2934 : BitVec 32 := 64#32
  let v6373 : BitVec 32 := Scalar.muli v6372 c64_i32_2934
  let v6374 : BitVec 32 := Scalar.addi c256_i32_2935 v6373
  v6374
def k0_mult88 (k0_t2 : Fin k0_t2_loop.trips) : BitVec 32 :=
  let c63_i32_2932 : BitVec 32 := 63#32
  let c4_i32_2931 : BitVec 32 := 4#32
  let c0_i32_1776 : BitVec 32 := 0#32
  let c1_i32_1777 : BitVec 32 := 1#32
  let arg25 : BitVec 32 := Scf.iv c0_i32_1776 c1_i32_1777 k0_t2
  let v6370 : BitVec 32 := Scalar.muli c4_i32_2931 arg25
  let v6371 : BitVec 32 := Scalar.subi c63_i32_2932 v6370
  let c1_i32_2933 : BitVec 32 := 1#32
  let v6372 : BitVec 32 := Scalar.subi v6371 c1_i32_2933
  let c64_i32_2936 : BitVec 32 := 64#32
  let v6376 : BitVec 32 := Scalar.muli v6372 c64_i32_2936
  v6376
def k0_off45 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6405 : Index := Scalar.indexCast v5023
  let c2_2947 : Index := 2#32
  let c64_2948 : Index := 64#32
  let c0_2949 : Index := 0#32
  ![v6405.toNat, 2, 64, 0]
def k0_off46 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6442 : Index := Scalar.indexCast v5023
  let c3_2962 : Index := 3#32
  let c64_2963 : Index := 64#32
  let c0_2964 : Index := 0#32
  ![v6442.toNat, 3, 64, 0]
def k0_mult89 (k0_t2 : Fin k0_t2_loop.trips) : BitVec 32 :=
  let c256_i32_3095 : BitVec 32 := 256#32
  let c4_i32_3092 : BitVec 32 := 4#32
  let c0_i32_1776 : BitVec 32 := 0#32
  let c1_i32_1777 : BitVec 32 := 1#32
  let arg25 : BitVec 32 := Scf.iv c0_i32_1776 c1_i32_1777 k0_t2
  let v6771 : BitVec 32 := Scalar.muli c4_i32_3092 arg25
  let c2_i32_3093 : BitVec 32 := 2#32
  let v6772 : BitVec 32 := Scalar.addi v6771 c2_i32_3093
  let c64_i32_3094 : BitVec 32 := 64#32
  let v6773 : BitVec 32 := Scalar.muli v6772 c64_i32_3094
  let v6774 : BitVec 32 := Scalar.addi c256_i32_3095 v6773
  v6774
def k0_mult90 (k0_t2 : Fin k0_t2_loop.trips) : BitVec 32 :=
  let c4_i32_3092 : BitVec 32 := 4#32
  let c0_i32_1776 : BitVec 32 := 0#32
  let c1_i32_1777 : BitVec 32 := 1#32
  let arg25 : BitVec 32 := Scf.iv c0_i32_1776 c1_i32_1777 k0_t2
  let v6771 : BitVec 32 := Scalar.muli c4_i32_3092 arg25
  let c2_i32_3093 : BitVec 32 := 2#32
  let v6772 : BitVec 32 := Scalar.addi v6771 c2_i32_3093
  let c64_i32_3096 : BitVec 32 := 64#32
  let v6776 : BitVec 32 := Scalar.muli v6772 c64_i32_3096
  v6776
def k0_off47 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6805 : Index := Scalar.indexCast v5023
  let c0_3107 : Index := 0#32
  let c128_3108 : Index := 128#32
  let c0_3109 : Index := 0#32
  ![v6805.toNat, 0, 128, 0]
def k0_off48 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6842 : Index := Scalar.indexCast v5023
  let c1_3122 : Index := 1#32
  let c128_3123 : Index := 128#32
  let c0_3124 : Index := 0#32
  ![v6842.toNat, 1, 128, 0]
def k0_mult91 (k0_t2 : Fin k0_t2_loop.trips) : BitVec 32 :=
  let c256_i32_3136 : BitVec 32 := 256#32
  let c63_i32_3133 : BitVec 32 := 63#32
  let c4_i32_3132 : BitVec 32 := 4#32
  let c0_i32_1776 : BitVec 32 := 0#32
  let c1_i32_1777 : BitVec 32 := 1#32
  let arg25 : BitVec 32 := Scf.iv c0_i32_1776 c1_i32_1777 k0_t2
  let v6863 : BitVec 32 := Scalar.muli c4_i32_3132 arg25
  let v6864 : BitVec 32 := Scalar.subi c63_i32_3133 v6863
  let c2_i32_3134 : BitVec 32 := 2#32
  let v6865 : BitVec 32 := Scalar.subi v6864 c2_i32_3134
  let c64_i32_3135 : BitVec 32 := 64#32
  let v6866 : BitVec 32 := Scalar.muli v6865 c64_i32_3135
  let v6867 : BitVec 32 := Scalar.addi c256_i32_3136 v6866
  v6867
def k0_mult92 (k0_t2 : Fin k0_t2_loop.trips) : BitVec 32 :=
  let c63_i32_3133 : BitVec 32 := 63#32
  let c4_i32_3132 : BitVec 32 := 4#32
  let c0_i32_1776 : BitVec 32 := 0#32
  let c1_i32_1777 : BitVec 32 := 1#32
  let arg25 : BitVec 32 := Scf.iv c0_i32_1776 c1_i32_1777 k0_t2
  let v6863 : BitVec 32 := Scalar.muli c4_i32_3132 arg25
  let v6864 : BitVec 32 := Scalar.subi c63_i32_3133 v6863
  let c2_i32_3134 : BitVec 32 := 2#32
  let v6865 : BitVec 32 := Scalar.subi v6864 c2_i32_3134
  let c64_i32_3137 : BitVec 32 := 64#32
  let v6869 : BitVec 32 := Scalar.muli v6865 c64_i32_3137
  v6869
def k0_off49 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6898 : Index := Scalar.indexCast v5023
  let c2_3148 : Index := 2#32
  let c128_3149 : Index := 128#32
  let c0_3150 : Index := 0#32
  ![v6898.toNat, 2, 128, 0]
def k0_off50 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v6935 : Index := Scalar.indexCast v5023
  let c3_3163 : Index := 3#32
  let c128_3164 : Index := 128#32
  let c0_3165 : Index := 0#32
  ![v6935.toNat, 3, 128, 0]
def k0_mult93 (k0_t2 : Fin k0_t2_loop.trips) : BitVec 32 :=
  let c256_i32_3296 : BitVec 32 := 256#32
  let c4_i32_3293 : BitVec 32 := 4#32
  let c0_i32_1776 : BitVec 32 := 0#32
  let c1_i32_1777 : BitVec 32 := 1#32
  let arg25 : BitVec 32 := Scf.iv c0_i32_1776 c1_i32_1777 k0_t2
  let v7264 : BitVec 32 := Scalar.muli c4_i32_3293 arg25
  let c3_i32_3294 : BitVec 32 := 3#32
  let v7265 : BitVec 32 := Scalar.addi v7264 c3_i32_3294
  let c64_i32_3295 : BitVec 32 := 64#32
  let v7266 : BitVec 32 := Scalar.muli v7265 c64_i32_3295
  let v7267 : BitVec 32 := Scalar.addi c256_i32_3296 v7266
  v7267
def k0_mult94 (k0_t2 : Fin k0_t2_loop.trips) : BitVec 32 :=
  let c4_i32_3293 : BitVec 32 := 4#32
  let c0_i32_1776 : BitVec 32 := 0#32
  let c1_i32_1777 : BitVec 32 := 1#32
  let arg25 : BitVec 32 := Scf.iv c0_i32_1776 c1_i32_1777 k0_t2
  let v7264 : BitVec 32 := Scalar.muli c4_i32_3293 arg25
  let c3_i32_3294 : BitVec 32 := 3#32
  let v7265 : BitVec 32 := Scalar.addi v7264 c3_i32_3294
  let c64_i32_3297 : BitVec 32 := 64#32
  let v7269 : BitVec 32 := Scalar.muli v7265 c64_i32_3297
  v7269
def k0_off51 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v7298 : Index := Scalar.indexCast v5023
  let c0_3308 : Index := 0#32
  let c192_3309 : Index := 192#32
  let c0_3310 : Index := 0#32
  ![v7298.toNat, 0, 192, 0]
def k0_off52 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v7335 : Index := Scalar.indexCast v5023
  let c1_3323 : Index := 1#32
  let c192_3324 : Index := 192#32
  let c0_3325 : Index := 0#32
  ![v7335.toNat, 1, 192, 0]
def k0_mult95 (k0_t2 : Fin k0_t2_loop.trips) : BitVec 32 :=
  let c256_i32_3337 : BitVec 32 := 256#32
  let c63_i32_3334 : BitVec 32 := 63#32
  let c4_i32_3333 : BitVec 32 := 4#32
  let c0_i32_1776 : BitVec 32 := 0#32
  let c1_i32_1777 : BitVec 32 := 1#32
  let arg25 : BitVec 32 := Scf.iv c0_i32_1776 c1_i32_1777 k0_t2
  let v7356 : BitVec 32 := Scalar.muli c4_i32_3333 arg25
  let v7357 : BitVec 32 := Scalar.subi c63_i32_3334 v7356
  let c3_i32_3335 : BitVec 32 := 3#32
  let v7358 : BitVec 32 := Scalar.subi v7357 c3_i32_3335
  let c64_i32_3336 : BitVec 32 := 64#32
  let v7359 : BitVec 32 := Scalar.muli v7358 c64_i32_3336
  let v7360 : BitVec 32 := Scalar.addi c256_i32_3337 v7359
  v7360
def k0_mult96 (k0_t2 : Fin k0_t2_loop.trips) : BitVec 32 :=
  let c63_i32_3334 : BitVec 32 := 63#32
  let c4_i32_3333 : BitVec 32 := 4#32
  let c0_i32_1776 : BitVec 32 := 0#32
  let c1_i32_1777 : BitVec 32 := 1#32
  let arg25 : BitVec 32 := Scf.iv c0_i32_1776 c1_i32_1777 k0_t2
  let v7356 : BitVec 32 := Scalar.muli c4_i32_3333 arg25
  let v7357 : BitVec 32 := Scalar.subi c63_i32_3334 v7356
  let c3_i32_3335 : BitVec 32 := 3#32
  let v7358 : BitVec 32 := Scalar.subi v7357 c3_i32_3335
  let c64_i32_3338 : BitVec 32 := 64#32
  let v7362 : BitVec 32 := Scalar.muli v7358 c64_i32_3338
  v7362
def k0_off53 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v7391 : Index := Scalar.indexCast v5023
  let c2_3349 : Index := 2#32
  let c192_3350 : Index := 192#32
  let c0_3351 : Index := 0#32
  ![v7391.toNat, 2, 192, 0]
def k0_off54 (k0_t2 : Fin k0_t2_loop.trips) : Fin 4 → Nat :=
  let c1_i32_2353 : BitVec 32 := 1#32
  let c0_i32_1776 : BitVec 32 := 0#32
  let c1_i32_1777 : BitVec 32 := 1#32
  let arg25 : BitVec 32 := Scf.iv c0_i32_1776 c1_i32_1777 k0_t2
  let v5013 : BitVec 32 := Scalar.addi c1_i32_2353 arg25
  let c2_i32_2354 : BitVec 32 := 2#32
  let c0_i32_2355 : BitVec 32 := 0#32
  let v5014 : BitVec 1 := Scalar.cmpi .eq c2_i32_2354 c0_i32_2355
  let c1_i32_2356 : BitVec 32 := 1#32
  let v5015 : BitVec 32 := Scalar.select v5014 c1_i32_2356 c2_i32_2354
  let v5016 : BitVec 32 := Scalar.remsi v5013 v5015
  let c0_i32_2358 : BitVec 32 := 0#32
  let v5018 : BitVec 1 := Scalar.cmpi .slt v5016 c0_i32_2358
  let c0_i32_2359 : BitVec 32 := 0#32
  let v5019 : BitVec 1 := Scalar.cmpi .slt v5015 c0_i32_2359
  let v5020 : BitVec 1 := Scalar.xori v5018 v5019
  let c0_i32_2357 : BitVec 32 := 0#32
  let v5017 : BitVec 1 := Scalar.cmpi .ne v5016 c0_i32_2357
  let v5021 : BitVec 1 := Scalar.andi v5020 v5017
  let v5022 : BitVec 32 := Scalar.addi v5016 v5015
  let v5023 : BitVec 32 := Scalar.select v5021 v5022 v5016
  let v7428 : Index := Scalar.indexCast v5023
  let c3_3364 : Index := 3#32
  let c192_3365 : Index := 192#32
  let c0_3366 : Index := 0#32
  ![v7428.toNat, 3, 192, 0]
def k0_off55 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7518 : Index := Scalar.indexCast v5036
  let c0_3407 : Index := 0#32
  let c0_3408 : Index := 0#32
  let c0_3409 : Index := 0#32
  ![v7518.toNat, 0, 0, 0]
def k0_off56 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7533 : Index := Scalar.indexCast v5036
  let c1_3414 : Index := 1#32
  let c0_3415 : Index := 0#32
  let c0_3416 : Index := 0#32
  ![v7533.toNat, 1, 0, 0]
def k0_off57 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7548 : Index := Scalar.indexCast v5036
  let c2_3421 : Index := 2#32
  let c0_3422 : Index := 0#32
  let c0_3423 : Index := 0#32
  ![v7548.toNat, 2, 0, 0]
def k0_off58 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7563 : Index := Scalar.indexCast v5036
  let c3_3428 : Index := 3#32
  let c0_3429 : Index := 0#32
  let c0_3430 : Index := 0#32
  ![v7563.toNat, 3, 0, 0]
def k0_off59 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7578 : Index := Scalar.indexCast v5036
  let c0_3435 : Index := 0#32
  let c64_3436 : Index := 64#32
  let c0_3437 : Index := 0#32
  ![v7578.toNat, 0, 64, 0]
def k0_off60 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7593 : Index := Scalar.indexCast v5036
  let c1_3442 : Index := 1#32
  let c64_3443 : Index := 64#32
  let c0_3444 : Index := 0#32
  ![v7593.toNat, 1, 64, 0]
def k0_off61 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7608 : Index := Scalar.indexCast v5036
  let c2_3449 : Index := 2#32
  let c64_3450 : Index := 64#32
  let c0_3451 : Index := 0#32
  ![v7608.toNat, 2, 64, 0]
def k0_off62 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7623 : Index := Scalar.indexCast v5036
  let c3_3456 : Index := 3#32
  let c64_3457 : Index := 64#32
  let c0_3458 : Index := 0#32
  ![v7623.toNat, 3, 64, 0]
def k0_off63 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7638 : Index := Scalar.indexCast v5036
  let c0_3463 : Index := 0#32
  let c128_3464 : Index := 128#32
  let c0_3465 : Index := 0#32
  ![v7638.toNat, 0, 128, 0]
def k0_off64 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7653 : Index := Scalar.indexCast v5036
  let c1_3470 : Index := 1#32
  let c128_3471 : Index := 128#32
  let c0_3472 : Index := 0#32
  ![v7653.toNat, 1, 128, 0]
def k0_off65 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7668 : Index := Scalar.indexCast v5036
  let c2_3477 : Index := 2#32
  let c128_3478 : Index := 128#32
  let c0_3479 : Index := 0#32
  ![v7668.toNat, 2, 128, 0]
def k0_off66 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7683 : Index := Scalar.indexCast v5036
  let c3_3484 : Index := 3#32
  let c128_3485 : Index := 128#32
  let c0_3486 : Index := 0#32
  ![v7683.toNat, 3, 128, 0]
def k0_off67 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7698 : Index := Scalar.indexCast v5036
  let c0_3491 : Index := 0#32
  let c192_3492 : Index := 192#32
  let c0_3493 : Index := 0#32
  ![v7698.toNat, 0, 192, 0]
def k0_off68 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7713 : Index := Scalar.indexCast v5036
  let c1_3498 : Index := 1#32
  let c192_3499 : Index := 192#32
  let c0_3500 : Index := 0#32
  ![v7713.toNat, 1, 192, 0]
def k0_off69 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7728 : Index := Scalar.indexCast v5036
  let c2_3505 : Index := 2#32
  let c192_3506 : Index := 192#32
  let c0_3507 : Index := 0#32
  ![v7728.toNat, 2, 192, 0]
def k0_off70 (k0_t2 : Fin k0_t2_loop.trips) : Fin 4 → Nat :=
  let c1_i32_2361 : BitVec 32 := 1#32
  let c0_i32_1776 : BitVec 32 := 0#32
  let c1_i32_1777 : BitVec 32 := 1#32
  let arg25 : BitVec 32 := Scf.iv c0_i32_1776 c1_i32_1777 k0_t2
  let v5025 : BitVec 32 := Scalar.addi c1_i32_2361 arg25
  let c1_i32_2362 : BitVec 32 := 1#32
  let v5026 : BitVec 32 := Scalar.addi v5025 c1_i32_2362
  let c2_i32_2363 : BitVec 32 := 2#32
  let c0_i32_2364 : BitVec 32 := 0#32
  let v5027 : BitVec 1 := Scalar.cmpi .eq c2_i32_2363 c0_i32_2364
  let c1_i32_2365 : BitVec 32 := 1#32
  let v5028 : BitVec 32 := Scalar.select v5027 c1_i32_2365 c2_i32_2363
  let v5029 : BitVec 32 := Scalar.remsi v5026 v5028
  let c0_i32_2367 : BitVec 32 := 0#32
  let v5031 : BitVec 1 := Scalar.cmpi .slt v5029 c0_i32_2367
  let c0_i32_2368 : BitVec 32 := 0#32
  let v5032 : BitVec 1 := Scalar.cmpi .slt v5028 c0_i32_2368
  let v5033 : BitVec 1 := Scalar.xori v5031 v5032
  let c0_i32_2366 : BitVec 32 := 0#32
  let v5030 : BitVec 1 := Scalar.cmpi .ne v5029 c0_i32_2366
  let v5034 : BitVec 1 := Scalar.andi v5033 v5030
  let v5035 : BitVec 32 := Scalar.addi v5029 v5028
  let v5036 : BitVec 32 := Scalar.select v5034 v5035 v5029
  let v7743 : Index := Scalar.indexCast v5036
  let c3_3512 : Index := 3#32
  let c192_3513 : Index := 192#32
  let c0_3514 : Index := 0#32
  ![v7743.toNat, 3, 192, 0]
def k0_mult97 : BitVec 32 :=
  let c4096_i32_1779 : BitVec 32 := 4096#32
  c4096_i32_1779
def k0_mult98 : BitVec 32 :=
  let c3840_i32_1780 : BitVec 32 := 3840#32
  c3840_i32_1780
def k0_mult99 : BitVec 32 :=
  let c448_i32_1820 : BitVec 32 := 448#32
  c448_i32_1820
def k0_mult100 : BitVec 32 :=
  let c192_i32_1821 : BitVec 32 := 192#32
  c192_i32_1821
def k0_mult101 : BitVec 32 :=
  let c4160_i32_1921 : BitVec 32 := 4160#32
  c4160_i32_1921
def k0_mult102 : BitVec 32 :=
  let c3904_i32_1922 : BitVec 32 := 3904#32
  c3904_i32_1922
def k0_mult103 : BitVec 32 :=
  let c384_i32_1962 : BitVec 32 := 384#32
  c384_i32_1962
def k0_mult104 : BitVec 32 :=
  let c128_i32_1963 : BitVec 32 := 128#32
  c128_i32_1963
def k0_mult105 : BitVec 32 :=
  let c4224_i32_2063 : BitVec 32 := 4224#32
  c4224_i32_2063
def k0_mult106 : BitVec 32 :=
  let c3968_i32_2064 : BitVec 32 := 3968#32
  c3968_i32_2064
def k0_mult107 : BitVec 32 :=
  let c320_i32_2104 : BitVec 32 := 320#32
  c320_i32_2104
def k0_mult108 : BitVec 32 :=
  let c64_i32_2105 : BitVec 32 := 64#32
  c64_i32_2105
def k0_mult109 : BitVec 32 :=
  let c4288_i32_2205 : BitVec 32 := 4288#32
  c4288_i32_2205
def k0_mult110 : BitVec 32 :=
  let c4032_i32_2206 : BitVec 32 := 4032#32
  c4032_i32_2206
def k0_mult111 : BitVec 32 :=
  let c256_i32_2246 : BitVec 32 := 256#32
  c256_i32_2246
def k0_mult112 : BitVec 32 :=
  let c0_i32_2247 : BitVec 32 := 0#32
  c0_i32_2247
@[reducible] def k0_t3_loop : Scf.Loop 32 :=
  let c0_i32_2349 : BitVec 32 := 0#32
  let c16_i32_2350 : BitVec 32 := 16#32
  let v5012 : BitVec 32 := Scalar.addi c0_i32_2349 c16_i32_2350
  let c1_i32_2351 : BitVec 32 := 1#32
  ⟨c0_i32_2349, v5012, c1_i32_2351⟩
def k0_mult113 (k0_t3 : Fin k0_t3_loop.trips) : BitVec 32 :=
  let c0_i32_2349 : BitVec 32 := 0#32
  let c1_i32_2351 : BitVec 32 := 1#32
  let arg25 : BitVec 32 := Scf.iv c0_i32_2349 c1_i32_2351 k0_t3
  let c256_i32_2353 : BitVec 32 := 256#32
  let v5013 : BitVec 32 := Scalar.muli arg25 c256_i32_2353
  v5013
def k0_off71 (k0_t3 : Fin k0_t3_loop.trips) : Fin 2 → Nat :=
  let c0_i32_2349 : BitVec 32 := 0#32
  let c1_i32_2351 : BitVec 32 := 1#32
  let arg25 : BitVec 32 := Scf.iv c0_i32_2349 c1_i32_2351 k0_t3
  let c256_i32_2353 : BitVec 32 := 256#32
  let v5013 : BitVec 32 := Scalar.muli arg25 c256_i32_2353
  let v5014 : BitVec 32 := v5013
  let v5015 : Index := Scalar.indexCast v5014
  let c0_2354 : Index := 0#32
  ![v5015.toNat, 0]
def k0_off72 (k0_t3 : Fin k0_t3_loop.trips) : Fin 3 → Nat :=
  let c0_2355 : Index := 0#32
  let c0_i32_2349 : BitVec 32 := 0#32
  let c1_i32_2351 : BitVec 32 := 1#32
  let arg25 : BitVec 32 := Scf.iv c0_i32_2349 c1_i32_2351 k0_t3
  let c256_i32_2353 : BitVec 32 := 256#32
  let v5013 : BitVec 32 := Scalar.muli arg25 c256_i32_2353
  let v5014 : BitVec 32 := v5013
  let v5017 : Index := Scalar.indexCast v5014
  let c0_2356 : Index := 0#32
  ![0, v5017.toNat, 0]
def k0_off73 (k0_t3 : Fin k0_t3_loop.trips) : Fin 3 → Nat :=
  let c0_2363 : Index := 0#32
  let c0_i32_2349 : BitVec 32 := 0#32
  let c1_i32_2351 : BitVec 32 := 1#32
  let arg25 : BitVec 32 := Scf.iv c0_i32_2349 c1_i32_2351 k0_t3
  let c256_i32_2353 : BitVec 32 := 256#32
  let v5013 : BitVec 32 := Scalar.muli arg25 c256_i32_2353
  let v5014 : BitVec 32 := v5013
  let v5045 : Index := Scalar.indexCast v5014
  let c0_2364 : Index := 0#32
  ![0, v5045.toNat, 0]
def k0_off74 (k0_t3 : Fin k0_t3_loop.trips) : Fin 3 → Nat :=
  let c0_2371 : Index := 0#32
  let c0_i32_2349 : BitVec 32 := 0#32
  let c1_i32_2351 : BitVec 32 := 1#32
  let arg25 : BitVec 32 := Scf.iv c0_i32_2349 c1_i32_2351 k0_t3
  let c256_i32_2353 : BitVec 32 := 256#32
  let v5013 : BitVec 32 := Scalar.muli arg25 c256_i32_2353
  let v5014 : BitVec 32 := v5013
  let v5073 : Index := Scalar.indexCast v5014
  let c128_2372 : Index := 128#32
  ![0, v5073.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x4x1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x4x1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S3x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S3x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x4096x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Proof.GdnIdealScan.lean ====
module

public import proofs.«01_k».proof.Proof.Gen.GdnIdeal.Loops

@[expose] public section

set_option maxRecDepth 8192
set_option maxHeartbeats 4000000

noncomputable section

namespace Cert.GdnIdeal.Scan

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The assertions these modules are written in. -/
local notation "𝕄s" => MT nD τ sig Unit (Elt F) ℕ (UR sig nD τ) ℕ

/-- Where access 19 of a trip lies, the parity of the chunk worked out. -/
theorem at19 : ∀ k : Fin k0_t2_loop.trips, k0_off19 k = ![(k.val + 1) % 2, 0, 0, 0] := by decide +kernel
/-- Access 19 at that place. -/
instance place19 (k : Fin k0_t2_loop.trips) : ClosedOff (k0_off19 k) := ⟨![(k.val + 1) % 2, 0, 0, 0], at19 k⟩

/-- Where access 21 of a trip lies, the parity of the chunk worked out. -/
theorem at21 : ∀ k : Fin k0_t2_loop.trips, k0_off21 k = ![(k.val + 1) % 2, 1, 0, 0] := by decide +kernel
/-- Access 21 at that place. -/
instance place21 (k : Fin k0_t2_loop.trips) : ClosedOff (k0_off21 k) := ⟨![(k.val + 1) % 2, 1, 0, 0], at21 k⟩

/-- Where access 25 of a trip lies, the parity of the chunk worked out. -/
theorem at25 : ∀ k : Fin k0_t2_loop.trips, k0_off25 k = ![(k.val + 1) % 2, 2, 0, 0] := by decide +kernel
/-- Access 25 at that place. -/
instance place25 (k : Fin k0_t2_loop.trips) : ClosedOff (k0_off25 k) := ⟨![(k.val + 1) % 2, 2, 0, 0], at25 k⟩

/-- Where access 27 of a trip lies, the parity of the chunk worked out. -/
theorem at27 : ∀ k : Fin k0_t2_loop.trips, k0_off27 k = ![(k.val + 1) % 2, 3, 0, 0] := by decide +kernel
/-- Access 27 at that place. -/
instance place27 (k : Fin k0_t2_loop.trips) : ClosedOff (k0_off27 k) := ⟨![(k.val + 1) % 2, 3, 0, 0], at27 k⟩

/-- Where access 43 of a trip lies, the parity of the chunk worked out. -/
theorem at43 : ∀ k : Fin k0_t2_loop.trips, k0_off43 k = ![(k.val + 1) % 2, 0, 64, 0] := by decide +kernel
/-- Access 43 at that place. -/
instance place43 (k : Fin k0_t2_loop.trips) : ClosedOff (k0_off43 k) := ⟨![(k.val + 1) % 2, 0, 64, 0], at43 k⟩

/-- Where access 44 of a trip lies, the parity of the chunk worked out. -/
theorem at44 : ∀ k : Fin k0_t2_loop.trips, k0_off44 k = ![(k.val + 1) % 2, 1, 64, 0] := by decide +kernel
/-- Access 44 at that place. -/
instance place44 (k : Fin k0_t2_loop.trips) : ClosedOff (k0_off44 k) := ⟨![(k.val + 1) % 2, 1, 64, 0], at44 k⟩

/-- Where access 45 of a trip lies, the parity of the chunk worked out. -/
theorem at45 : ∀ k : Fin k0_t2_loop.trips, k0_off45 k = ![(k.val + 1) % 2, 2, 64, 0] := by decide +kernel
/-- Access 45 at that place. -/
instance place45 (k : Fin k0_t2_loop.trips) : ClosedOff (k0_off45 k) := ⟨![(k.val + 1) % 2, 2, 64, 0], at45 k⟩

/-- Where access 46 of a trip lies, the parity of the chunk worked out. -/
theorem at46 : ∀ k : Fin k0_t2_loop.trips, k0_off46 k = ![(k.val + 1) % 2, 3, 64, 0] := by decide +kernel
/-- Access 46 at that place. -/
instance place46 (k : Fin k0_t2_loop.trips) : ClosedOff (k0_off46 k) := ⟨![(k.val + 1) % 2, 3, 64, 0], at46 k⟩

/-- Where access 47 of a trip lies, the parity of the chunk worked out. -/
theorem at47 : ∀ k : Fin k0_t2_loop.trips, k0_off47 k = ![(k.val + 1) % 2, 0, 128, 0] := by decide +kernel
/-- Access 47 at that place. -/
instance place47 (k : Fin k0_t2_loop.trips) : ClosedOff (k0_off47 k) := ⟨![(k.val + 1) % 2, 0, 128, 0], at47 k⟩

/-- Where access 48 of a trip lies, the parity of the chunk worked out. -/
theorem at48 : ∀ k : Fin k0_t2_loop.trips, k0_off48 k = ![(k.val + 1) % 2, 1, 128, 0] := by decide +kernel
/-- Access 48 at that place. -/
instance place48 (k : Fin k0_t2_loop.trips) : ClosedOff (k0_off48 k) := ⟨![(k.val + 1) % 2, 1, 128, 0], at48 k⟩

/-- Where access 49 of a trip lies, the parity of the chunk worked out. -/
theorem at49 : ∀ k : Fin k0_t2_loop.trips, k0_off49 k = ![(k.val + 1) % 2, 2, 128, 0] := by decide +kernel
/-- Access 49 at that place. -/
instance place49 (k : Fin k0_t2_loop.trips) : ClosedOff (k0_off49 k) := ⟨![(k.val + 1) % 2, 2, 128, 0], at49 k⟩

/-- Where access 50 of a trip lies, the parity of the chunk worked out. -/
theorem at50 : ∀ k : Fin k0_t2_loop.trips, k0_off50 k = ![(k.val + 1) % 2, 3, 128, 0] := by decide +kernel
/-- Access 50 at that place. -/
instance place50 (k : Fin k0_t2_loop.trips) : ClosedOff (k0_off50 k) := ⟨![(k.val + 1) % 2, 3, 128, 0], at50 k⟩

/-- Where access 51 of a trip lies, the parity of the chunk worked out. -/
theorem at51 : ∀ k : Fin k0_t2_loop.trips, k0_off51 k = ![(k.val + 1) % 2, 0, 192, 0] := by decide +kernel
/-- Access 51 at that place. -/
instance place51 (k : Fin k0_t2_loop.trips) : ClosedOff (k0_off51 k) := ⟨![(k.val + 1) % 2, 0, 192, 0], at51 k⟩

/-- Where access 52 of a trip lies, the parity of the chunk worked out. -/
theorem at52 : ∀ k : Fin k0_t2_loop.trips, k0_off52 k = ![(k.val + 1) % 2, 1, 192, 0] := by decide +kernel
/-- Access 52 at that place. -/
instance place52 (k : Fin k0_t2_loop.trips) : ClosedOff (k0_off52 k) := ⟨![(k.val + 1) % 2, 1, 192, 0], at52 k⟩

/-- Where access 53 of a trip lies, the parity of the chunk worked out. -/
theorem at53 : ∀ k : Fin k0_t2_loop.trips, k0_off53 k = ![(k.val + 1) % 2, 2, 192, 0] := by decide +kernel
/-- Access 53 at that place. -/
instance place53 (k : Fin k0_t2_loop.trips) : ClosedOff (k0_off53 k) := ⟨![(k.val + 1) % 2, 2, 192, 0], at53 k⟩

/-- Where access 54 of a trip lies, the parity of the chunk worked out. -/
theorem at54 : ∀ k : Fin k0_t2_loop.trips, k0_off54 k = ![(k.val + 1) % 2, 3, 192, 0] := by decide +kernel
/-- Access 54 at that place. -/
instance place54 (k : Fin k0_t2_loop.trips) : ClosedOff (k0_off54 k) := ⟨![(k.val + 1) % 2, 3, 192, 0], at54 k⟩

/-- Where access 55 of a trip lies, the parity of the chunk worked out. -/
theorem at55 : ∀ k : Fin k0_t2_loop.trips, k0_off55 k = ![(k.val + 2) % 2, 0, 0, 0] := by decide +kernel
/-- Access 55 at that place. -/
instance place55 (k : Fin k0_t2_loop.trips) : ClosedOff (k0_off55 k) := ⟨![(k.val + 2) % 2, 0, 0, 0], at55 k⟩

/-- Where access 56 of a trip lies, the parity of the chunk worked out. -/
theorem at56 : ∀ k : Fin k0_t2_loop.trips, k0_off56 k = ![(k.val + 2) % 2, 1, 0, 0] := by decide +kernel
/-- Access 56 at that place. -/
instance place56 (k : Fin k0_t2_loop.trips) : ClosedOff (k0_off56 k) := ⟨![(k.val + 2) % 2, 1, 0, 0], at56 k⟩

/-- Where access 57 of a trip lies, the parity of the chunk worked out. -/
theorem at57 : ∀ k : Fin k0_t2_loop.trips, k0_off57 k = ![(k.val + 2) % 2, 2, 0, 0] := by decide +kernel
/-- Access 57 at that place. -/
instance place57 (k : Fin k0_t2_loop.trips) : ClosedOff (k0_off57 k) := ⟨![(k.val + 2) % 2, 2, 0, 0], at57 k⟩

/-- Where access 58 of a trip lies, the parity of the chunk worked out. -/
theorem at58 : ∀ k : Fin k0_t2_loop.trips, k0_off58 k = ![(k.val + 2) % 2, 3, 0, 0] := by decide +kernel
/-- Access 58 at that place. -/
instance place58 (k : Fin k0_t2_loop.trips) : ClosedOff (k0_off58 k) := ⟨![(k.val + 2) % 2, 3, 0, 0], at58 k⟩

/-- Where access 59 of a trip lies, the parity of the chunk worked out. -/
theorem at59 : ∀ k : Fin k0_t2_loop.trips, k0_off59 k = ![(k.val + 2) % 2, 0, 64, 0] := by decide +kernel
/-- Access 59 at that place. -/
instance place59 (k : Fin k0_t2_loop.trips) : ClosedOff (k0_off59 k) := ⟨![(k.val + 2) % 2, 0, 64, 0], at59 k⟩

/-- Where access 60 of a trip lies, the parity of the chunk worked out. -/
theorem at60 : ∀ k : Fin k0_t2_loop.trips, k0_off60 k = ![(k.val + 2) % 2, 1, 64, 0] := by decide +kernel
/-- Access 60 at that place. -/
instance place60 (k : Fin k0_t2_loop.trips) : ClosedOff (k0_off60 k) := ⟨![(k.val + 2) % 2, 1, 64, 0], at60 k⟩

/-- Where access 61 of a trip lies, the parity of the chunk worked out. -/
theorem at61 : ∀ k : Fin k0_t2_loop.trips, k0_off61 k = ![(k.val + 2) % 2, 2, 64, 0] := by decide +kernel
/-- Access 61 at that place. -/
instance place61 (k : Fin k0_t2_loop.trips) : ClosedOff (k0_off61 k) := ⟨![(k.val + 2) % 2, 2, 64, 0], at61 k⟩

/-- Where access 62 of a trip lies, the parity of the chunk worked out. -/
theorem at62 : ∀ k : Fin k0_t2_loop.trips, k0_off62 k = ![(k.val + 2) % 2, 3, 64, 0] := by decide +kernel
/-- Access 62 at that place. -/
instance place62 (k : Fin k0_t2_loop.trips) : ClosedOff (k0_off62 k) := ⟨![(k.val + 2) % 2, 3, 64, 0], at62 k⟩

/-- Where access 63 of a trip lies, the parity of the chunk worked out. -/
theorem at63 : ∀ k : Fin k0_t2_loop.trips, k0_off63 k = ![(k.val + 2) % 2, 0, 128, 0] := by decide +kernel
/-- Access 63 at that place. -/
instance place63 (k : Fin k0_t2_loop.trips) : ClosedOff (k0_off63 k) := ⟨![(k.val + 2) % 2, 0, 128, 0], at63 k⟩

/-- Where access 64 of a trip lies, the parity of the chunk worked out. -/
theorem at64 : ∀ k : Fin k0_t2_loop.trips, k0_off64 k = ![(k.val + 2) % 2, 1, 128, 0] := by decide +kernel
/-- Access 64 at that place. -/
instance place64 (k : Fin k0_t2_loop.trips) : ClosedOff (k0_off64 k) := ⟨![(k.val + 2) % 2, 1, 128, 0], at64 k⟩

/-- Where access 65 of a trip lies, the parity of the chunk worked out. -/
theorem at65 : ∀ k : Fin k0_t2_loop.trips, k0_off65 k = ![(k.val + 2) % 2, 2, 128, 0] := by decide +kernel
/-- Access 65 at that place. -/
instance place65 (k : Fin k0_t2_loop.trips) : ClosedOff (k0_off65 k) := ⟨![(k.val + 2) % 2, 2, 128, 0], at65 k⟩

/-- Where access 66 of a trip lies, the parity of the chunk worked out. -/
theorem at66 : ∀ k : Fin k0_t2_loop.trips, k0_off66 k = ![(k.val + 2) % 2, 3, 128, 0] := by decide +kernel
/-- Access 66 at that place. -/
instance place66 (k : Fin k0_t2_loop.trips) : ClosedOff (k0_off66 k) := ⟨![(k.val + 2) % 2, 3, 128, 0], at66 k⟩

/-- Where access 67 of a trip lies, the parity of the chunk worked out. -/
theorem at67 : ∀ k : Fin k0_t2_loop.trips, k0_off67 k = ![(k.val + 2) % 2, 0, 192, 0] := by decide +kernel
/-- Access 67 at that place. -/
instance place67 (k : Fin k0_t2_loop.trips) : ClosedOff (k0_off67 k) := ⟨![(k.val + 2) % 2, 0, 192, 0], at67 k⟩

/-- Where access 68 of a trip lies, the parity of the chunk worked out. -/
theorem at68 : ∀ k : Fin k0_t2_loop.trips, k0_off68 k = ![(k.val + 2) % 2, 1, 192, 0] := by decide +kernel
/-- Access 68 at that place. -/
instance place68 (k : Fin k0_t2_loop.trips) : ClosedOff (k0_off68 k) := ⟨![(k.val + 2) % 2, 1, 192, 0], at68 k⟩

/-- Where access 69 of a trip lies, the parity of the chunk worked out. -/
theorem at69 : ∀ k : Fin k0_t2_loop.trips, k0_off69 k = ![(k.val + 2) % 2, 2, 192, 0] := by decide +kernel
/-- Access 69 at that place. -/
instance place69 (k : Fin k0_t2_loop.trips) : ClosedOff (k0_off69 k) := ⟨![(k.val + 2) % 2, 2, 192, 0], at69 k⟩

/-- Where access 70 of a trip lies, the parity of the chunk worked out. -/
theorem at70 : ∀ k : Fin k0_t2_loop.trips, k0_off70 k = ![(k.val + 2) % 2, 3, 192, 0] := by decide +kernel
/-- Access 70 at that place. -/
instance place70 (k : Fin k0_t2_loop.trips) : ClosedOff (k0_off70 k) := ⟨![(k.val + 2) % 2, 3, 192, 0], at70 k⟩

/-- What the scan over the chunks holds between two trips: the two gate blocks and the convolved
    queries, keys and values (`arg6`, `arg7`, `arg18`, `arg19`, `arg20`) at the contents they came with,
    and the four buffers the scan writes (the outputs `arg21`, the states `arg22` and the two staged
    factor buffers `arg23`, `arg24`) each at some contents. -/
abbrev held (c : Dev nD) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x64x4x1x2x128 .f32) (harg7 : arg7.IsWhole) (arg8 : Memref sig .tc .vmem S1x256x128 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x128 .f32) (harg11 : arg11.IsWhole) (arg12 : Memref sig .tc .vmem S1x4x4x1x2x128 .f32) (harg12 : arg12.IsWhole) (arg13 : Memref sig .tc .vmem S3x128 .f32) (harg13 : arg13.IsWhole) (arg14 : Memref sig .tc .vmem S3x128 .f32) (harg14 : arg14.IsWhole) (arg15 : Memref sig .tc .vmem S3x256 .f32) (harg15 : arg15.IsWhole) (arg16 : Memref sig .tc .vmem S1x128 .f32) (harg16 : arg16.IsWhole) (arg17 : Memref sig .tc .vmem S1x4096x256 .bf16) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x256 .f32) (harg20 : arg20.IsWhole) (arg21 : Memref sig .tc .vmem S4096x256 .f32) (harg21 : arg21.IsWhole) (arg22 : Memref sig .tc .vmem S4x128x128 .f32) (harg22 : arg22.IsWhole) (arg23 : Memref sig .tc .vmem S2x4x256x128 .f32) (harg23 : arg23.IsWhole) (arg24 : Memref sig .tc .vmem S2x4x256x128 .bf16) (harg24 : arg24.IsWhole)
    (X_arg6 : BufTy.Contents (Elt F) arg6.view.ty) (X_arg7 : BufTy.Contents (Elt F) arg7.view.ty) (X_arg18 : BufTy.Contents (Elt F) arg18.view.ty) (X_arg19 : BufTy.Contents (Elt F) arg19.view.ty) (X_arg20 : BufTy.Contents (Elt F) arg20.view.ty) (_k : ℕ) (_u : PUnit) : sProp 𝕄s :=
  iprop((arg6.view.loc (c : Thread nD τ) ↦[arg6.view.set]{fullShare} X_arg6) ∗
    (arg7.view.loc (c : Thread nD τ) ↦[arg7.view.set]{fullShare} X_arg7) ∗
    (arg18.view.loc (c : Thread nD τ) ↦[arg18.view.set]{fullShare} X_arg18) ∗
    (arg19.view.loc (c : Thread nD τ) ↦[arg19.view.set]{fullShare} X_arg19) ∗
    (arg20.view.loc (c : Thread nD τ) ↦[arg20.view.set]{fullShare} X_arg20) ∗
    (∃ f, (arg21.view.loc (c : Thread nD τ) ↦[arg21.view.set]{fullShare} f)) ∗
    (∃ f, (arg22.view.loc (c : Thread nD τ) ↦[arg22.view.set]{fullShare} f)) ∗
    (∃ f, (arg23.view.loc (c : Thread nD τ) ↦[arg23.view.set]{fullShare} f)) ∗
    (∃ f, (arg24.view.loc (c : Thread nD τ) ↦[arg24.view.set]{fullShare} f)))

set_option warn.classDefReducibility false in
/-- The scan over the chunks keeps `held`: a trip reads the blocks where they lie and leaves each of the
    written buffers at some contents. -/
@[sl_loop] def scanInv (𝒱 : Variants) (c : Dev nD) (bd : Option 𝒱.V) (E : Set ℕ) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x64x4x1x2x128 .f32) (harg7 : arg7.IsWhole) (arg8 : Memref sig .tc .vmem S1x256x128 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x128 .f32) (harg11 : arg11.IsWhole) (arg12 : Memref sig .tc .vmem S1x4x4x1x2x128 .f32) (harg12 : arg12.IsWhole) (arg13 : Memref sig .tc .vmem S3x128 .f32) (harg13 : arg13.IsWhole) (arg14 : Memref sig .tc .vmem S3x128 .f32) (harg14 : arg14.IsWhole) (arg15 : Memref sig .tc .vmem S3x256 .f32) (harg15 : arg15.IsWhole) (arg16 : Memref sig .tc .vmem S1x128 .f32) (harg16 : arg16.IsWhole) (arg17 : Memref sig .tc .vmem S1x4096x256 .bf16) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x256 .f32) (harg20 : arg20.IsWhole) (arg21 : Memref sig .tc .vmem S4096x256 .f32) (harg21 : arg21.IsWhole) (arg22 : Memref sig .tc .vmem S4x128x128 .f32) (harg22 : arg22.IsWhole) (arg23 : Memref sig .tc .vmem S2x4x256x128 .f32) (harg23 : arg23.IsWhole) (arg24 : Memref sig .tc .vmem S2x4x256x128 .bf16) (harg24 : arg24.IsWhole) (arg1 : BitVec 32) (v245 : IVec S64x128 1) (v250 : FVec F S64x128 .f32) (v251 : IVec S64x128 1) (v252 : IVec S64x128 1) (v253 : IVec S64x128 1) (v254 : IVec S64x128 1) (v255 : IVec S64x128 32) (v256 : FVec F S64x128 .bf16) (v257 : FVec F S64x256 .bf16) (v3551 : FVec F S1x1 .f32) (v3557 : FVec F S64x128 .bf16) (v3569 : FVec F S1x1 .f32) (v3575 : FVec F S64x128 .bf16) (v3631 : FVec F S128x128 .f32) (v3633 : FVec F S128x128 .f32) (v3639 : FVec F S64x128 .f32) (v3641 : FVec F S64x128 .f32) (v3875 : FVec F S64x128 .f32)
    (X_arg6 : BufTy.Contents (Elt F) arg6.view.ty) (X_arg7 : BufTy.Contents (Elt F) arg7.view.ty) (X_arg18 : BufTy.Contents (Elt F) arg18.view.ty) (X_arg19 : BufTy.Contents (Elt F) arg19.view.ty) (X_arg20 : BufTy.Contents (Elt F) arg20.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v245 v250 v251 v252 v253 v254 v255 v256 v257 v3551 v3557 v3569 v3575 v3631 v3633 v3639 v3641 v3875 where
  inv := held (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 X_arg6 X_arg7 X_arg18 X_arg19 X_arg20
  step k acc := by
    have hk : k.val < 15 := Nat.lt_of_lt_of_le k.isLt k0_t2_abs.2.1
    iintro ⟨R_arg6, R_arg7, R_arg18, R_arg19, R_arg20, ⟨%f_arg21, W_arg21⟩, ⟨%f_arg22, W_arg22⟩, ⟨%f_arg23, W_arg23⟩, ⟨%f_arg24, W_arg24⟩⟩
    unfold k0_t2_body
    sl_exec
    sl_step
    isplitl [R_arg6]; · iexact R_arg6
    isplitl [R_arg7]; · iexact R_arg7
    isplitl [R_arg18]; · iexact R_arg18
    isplitl [R_arg19]; · iexact R_arg19
    isplitl [R_arg20]; · iexact R_arg20
    isplitl [W_arg21]; · iexists _; iexact W_arg21
    isplitl [W_arg22]; · iexists _; iexact W_arg22
    isplitl [W_arg23]; · iexists _; iexact W_arg23
    iexists _; iexact W_arg24

end Cert.GdnIdeal.Scan

end
-- ==== Proof.GdnIdealBody.lean ====
module

public import proofs.«01_k».proof.Proof.Gen.GdnIdeal.Launch
public import proofs.«01_k».proof.Proof.Gen.GdnIdeal.Points
public import proofs.«01_k».proof.Proof.GdnIdealScan
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.GdnIdeal.Scan

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The assertions these modules are written in. -/
local notation "𝕄s" => MT nD τ sig Unit (Elt F) ℕ (UR sig nD τ) ℕ

/-- What one call of the body is given and gives back: the fifteen input blocks at their values, the
    output block and the seven scratch buffers each at some contents. -/
abbrev given (c : Dev nD) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x64x4x1x2x128 .f32) (harg7 : arg7.IsWhole) (arg8 : Memref sig .tc .vmem S1x256x128 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x128 .f32) (harg11 : arg11.IsWhole) (arg12 : Memref sig .tc .vmem S1x4x4x1x2x128 .f32) (harg12 : arg12.IsWhole) (arg13 : Memref sig .tc .vmem S3x128 .f32) (harg13 : arg13.IsWhole) (arg14 : Memref sig .tc .vmem S3x128 .f32) (harg14 : arg14.IsWhole) (arg15 : Memref sig .tc .vmem S3x256 .f32) (harg15 : arg15.IsWhole) (arg16 : Memref sig .tc .vmem S1x128 .f32) (harg16 : arg16.IsWhole) (arg17 : Memref sig .tc .vmem S1x4096x256 .bf16) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x256 .f32) (harg20 : arg20.IsWhole) (arg21 : Memref sig .tc .vmem S4096x256 .f32) (harg21 : arg21.IsWhole) (arg22 : Memref sig .tc .vmem S4x128x128 .f32) (harg22 : arg22.IsWhole) (arg23 : Memref sig .tc .vmem S2x4x256x128 .f32) (harg23 : arg23.IsWhole) (arg24 : Memref sig .tc .vmem S2x4x256x128 .bf16) (harg24 : arg24.IsWhole)
    (x0 : Vec F S1x4096x128 .bf16) (x1 : Vec F S1x4096x128 .bf16) (x2 : Vec F S1x4096x256 .bf16) (x3 : Vec F S1x4096x256 .bf16) (x4 : Vec F S1x4096x128 .f32) (x5 : Vec F S1x64x4x1x2x128 .f32) (x6 : Vec F S1x256x128 .bf16) (x7 : Vec F S1x256x128 .bf16) (x8 : Vec F S1x256x256 .bf16) (x9 : Vec F S1x256x128 .f32) (x10 : Vec F S1x4x4x1x2x128 .f32) (x11 : Vec F S3x128 .f32) (x12 : Vec F S3x128 .f32) (x13 : Vec F S3x256 .f32) (x14 : Vec F S1x128 .f32) : sProp 𝕄s :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d))

set_option maxHeartbeats 6000000 in
/-- One call of the body, on whole buffers: it runs to its end and gives back what it was `given`. The
    scan over the chunks goes by `scanInv`, the two outer loops by the invariants stated with the program. -/
theorem body_run (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x4096x128 .f32) (harg6 : arg6.IsWhole) (arg7 : Memref sig .tc .vmem S1x64x4x1x2x128 .f32) (harg7 : arg7.IsWhole) (arg8 : Memref sig .tc .vmem S1x256x128 .bf16) (harg8 : arg8.IsWhole) (arg9 : Memref sig .tc .vmem S1x256x128 .bf16) (harg9 : arg9.IsWhole) (arg10 : Memref sig .tc .vmem S1x256x256 .bf16) (harg10 : arg10.IsWhole) (arg11 : Memref sig .tc .vmem S1x256x128 .f32) (harg11 : arg11.IsWhole) (arg12 : Memref sig .tc .vmem S1x4x4x1x2x128 .f32) (harg12 : arg12.IsWhole) (arg13 : Memref sig .tc .vmem S3x128 .f32) (harg13 : arg13.IsWhole) (arg14 : Memref sig .tc .vmem S3x128 .f32) (harg14 : arg14.IsWhole) (arg15 : Memref sig .tc .vmem S3x256 .f32) (harg15 : arg15.IsWhole) (arg16 : Memref sig .tc .vmem S1x128 .f32) (harg16 : arg16.IsWhole) (arg17 : Memref sig .tc .vmem S1x4096x256 .bf16) (harg17 : arg17.IsWhole) (arg18 : Memref sig .tc .vmem S4352x128 .f32) (harg18 : arg18.IsWhole) (arg19 : Memref sig .tc .vmem S4352x128 .f32) (harg19 : arg19.IsWhole) (arg20 : Memref sig .tc .vmem S4352x256 .f32) (harg20 : arg20.IsWhole) (arg21 : Memref sig .tc .vmem S4096x256 .f32) (harg21 : arg21.IsWhole) (arg22 : Memref sig .tc .vmem S4x128x128 .f32) (harg22 : arg22.IsWhole) (arg23 : Memref sig .tc .vmem S2x4x256x128 .f32) (harg23 : arg23.IsWhole) (arg24 : Memref sig .tc .vmem S2x4x256x128 .bf16) (harg24 : arg24.IsWhole)
    (x0 : Vec F S1x4096x128 .bf16) (x1 : Vec F S1x4096x128 .bf16) (x2 : Vec F S1x4096x256 .bf16) (x3 : Vec F S1x4096x256 .bf16) (x4 : Vec F S1x4096x128 .f32) (x5 : Vec F S1x64x4x1x2x128 .f32) (x6 : Vec F S1x256x128 .bf16) (x7 : Vec F S1x256x128 .bf16) (x8 : Vec F S1x256x256 .bf16) (x9 : Vec F S1x256x128 .f32) (x10 : Vec F S1x4x4x1x2x128 .f32) (x11 : Vec F S3x128 .f32) (x12 : Vec F S3x128 .f32) (x13 : Vec F S3x256 .f32) (x14 : Vec F S1x128 .f32) (E : Set ℕ) (K : PUnit → sProp 𝕄s) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (given (F := F) c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 -∗ K ⟨⟩))
      ⊢ wp frame (wpE (defs₀ (F := F)) Variants.none c none) E (cc0_gdn_bidir i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_gdn_bidir_eq_skeleton]; unfold cc0_gdn_bidir_skel
  simp only [k0_part200_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part201_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton]
  unfold given owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := harg2.eq_unread e0
  obtain rfl := harg3.eq_unread e1
  obtain rfl := harg4.eq_unread e2
  obtain rfl := harg5.eq_unread e3
  obtain rfl := harg6.eq_unread e4
  obtain rfl := harg7.eq_unread e5
  obtain rfl := harg8.eq_unread e6
  obtain rfl := harg9.eq_unread e7
  obtain rfl := harg10.eq_unread e8
  obtain rfl := harg11.eq_unread e9
  obtain rfl := harg12.eq_unread e10
  obtain rfl := harg13.eq_unread e11
  obtain rfl := harg14.eq_unread e12
  obtain rfl := harg15.eq_unread e13
  obtain rfl := harg16.eq_unread e14
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; · ipureintro; exact harg16.read_unread _
    iexact H14
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Cert.GdnIdeal.Scan

end
-- ==== Proof.GdnIdealFrame.lean ====
module

public import proofs.«01_k».proof.Proof.Gen.GdnIdeal.Frame
public import proofs.«01_k».proof.Proof.GdnIdealBody
public import Idealize.ShloMosaic.Lib.Claim

@[expose] public section

set_option maxRecDepth 16384

noncomputable section

namespace Cert.GdnIdeal.Scan

open Cert.GdnIdeal Cert.GdnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The assertions these modules are written in. -/
local notation "𝕄s" => MT nD τ sig Unit (Elt F) ℕ (UR sig nD τ) ℕ

variable (m : (ℓ : Loc nD τ sig) → Buf (Elt F) ℓ) (ρ : Dev nD → PrngReg)

/-- The buffer window 0 is staged in at a grid point. -/
abbrev buf0 (t : Fin cfg0.N) : Memref sig .tc .vmem S1x4096x128 .bf16 := win0_0.stage (cfg0.slots t 0)
/-- The buffer window 1 is staged in at a grid point. -/
abbrev buf1 (t : Fin cfg0.N) : Memref sig .tc .vmem S1x4096x128 .bf16 := win0_1.stage (cfg0.slots t 1)
/-- The buffer window 2 is staged in at a grid point. -/
abbrev buf2 (t : Fin cfg0.N) : Memref sig .tc .vmem S1x4096x256 .bf16 := win0_2.stage (cfg0.slots t 2)
/-- The buffer window 3 is staged in at a grid point. -/
abbrev buf3 (t : Fin cfg0.N) : Memref sig .tc .vmem S1x4096x256 .bf16 := win0_3.stage (cfg0.slots t 3)
/-- The buffer window 4 is staged in at a grid point. -/
abbrev buf4 (t : Fin cfg0.N) : Memref sig .tc .vmem S1x4096x128 .f32 := win0_4.stage (cfg0.slots t 4)
/-- The buffer window 5 is staged in at a grid point. -/
abbrev buf5 (t : Fin cfg0.N) : Memref sig .tc .vmem S1x64x4x1x2x128 .f32 := win0_5.stage (cfg0.slots t 5)
/-- The buffer window 6 is staged in at a grid point. -/
abbrev buf6 (t : Fin cfg0.N) : Memref sig .tc .vmem S1x256x128 .bf16 := win0_6.stage (cfg0.slots t 6)
/-- The buffer window 7 is staged in at a grid point. -/
abbrev buf7 (t : Fin cfg0.N) : Memref sig .tc .vmem S1x256x128 .bf16 := win0_7.stage (cfg0.slots t 7)
/-- The buffer window 8 is staged in at a grid point. -/
abbrev buf8 (t : Fin cfg0.N) : Memref sig .tc .vmem S1x256x256 .bf16 := win0_8.stage (cfg0.slots t 8)
/-- The buffer window 9 is staged in at a grid point. -/
abbrev buf9 (t : Fin cfg0.N) : Memref sig .tc .vmem S1x256x128 .f32 := win0_9.stage (cfg0.slots t 9)
/-- The buffer window 10 is staged in at a grid point. -/
abbrev buf10 (t : Fin cfg0.N) : Memref sig .tc .vmem S1x4x4x1x2x128 .f32 := win0_10.stage (cfg0.slots t 10)
/-- The buffer window 11 is staged in at a grid point. -/
abbrev buf11 (t : Fin cfg0.N) : Memref sig .tc .vmem S3x128 .f32 := win0_11.stage (cfg0.slots t 11)
/-- The buffer window 12 is staged in at a grid point. -/
abbrev buf12 (t : Fin cfg0.N) : Memref sig .tc .vmem S3x128 .f32 := win0_12.stage (cfg0.slots t 12)
/-- The buffer window 13 is staged in at a grid point. -/
abbrev buf13 (t : Fin cfg0.N) : Memref sig .tc .vmem S3x256 .f32 := win0_13.stage (cfg0.slots t 13)
/-- The buffer window 14 is staged in at a grid point. -/
abbrev buf14 (t : Fin cfg0.N) : Memref sig .tc .vmem S1x128 .f32 := win0_14.stage (cfg0.slots t 14)
/-- The buffer window 15 is staged in at a grid point. -/
abbrev buf15 (t : Fin cfg0.N) : Memref sig .tc .vmem S1x4096x256 .bf16 := win0_15.stage (cfg0.slots t 15)
/-- Scratch buffer 0, whole. -/
abbrev scr0 : Memref sig .tc .vmem S4352x128 .f32 := Memref.whole cc0_scratch0
/-- Scratch buffer 1, whole. -/
abbrev scr1 : Memref sig .tc .vmem S4352x128 .f32 := Memref.whole cc0_scratch1
/-- Scratch buffer 2, whole. -/
abbrev scr2 : Memref sig .tc .vmem S4352x256 .f32 := Memref.whole cc0_scratch2
/-- Scratch buffer 3, whole. -/
abbrev scr3 : Memref sig .tc .vmem S4096x256 .f32 := Memref.whole cc0_scratch3
/-- Scratch buffer 4, whole. -/
abbrev scr4 : Memref sig .tc .vmem S4x128x128 .f32 := Memref.whole cc0_scratch4
/-- Scratch buffer 5, whole. -/
abbrev scr5 : Memref sig .tc .vmem S2x4x256x128 .f32 := Memref.whole cc0_scratch5
/-- Scratch buffer 6, whole. -/
abbrev scr6 : Memref sig .tc .vmem S2x4x256x128 .bf16 := Memref.whole cc0_scratch6

/-- The seven scratch buffers, each at some contents. -/
abbrev scratches (c : Dev nD) : sProp 𝕄s :=
  iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d))

/-- What stands between two grid points is the scratch buffers and the generator's register. -/
theorem between_eq (c : Dev nD) :
    (Pipeline.ΦA spec0 c : sProp 𝕄s) = iprop(scratches (F := F) c ∗ (∃ r, prngReg c r)) := by
  unfold Pipeline.ΦA scratches
  rw [scopedRest0_eq]
  simp only [scr0, scr1, scr2, scr3, scr4, scr5, scr6, owns_whole]
  try rfl

/-- The one window whose contents nothing is said of: the output's. -/
def unsaid : Fin 16 → Bool := fun w => w.val == 15

/-- The data of the pipeline: every input block stays what it was when fetched, the output block is at
    whatever the body left. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- The arrays are as the launch finds them. -/
theorem data_A (c : Dev nD) (w : Fin cfg0.W) : (data m 0 c).A w = V m c (Pipeline.arrRef spec0 w) := by
  dsimp only [data]

/-- The body leaves window 0 at its block, -/
theorem left0 (c : Dev nD) (t : Fin cfg0.N) : (data m 0 c).after 0 t = iblk m c 0 t := by dsimp only [data]
/-- and finds it so. -/
theorem found0 (c : Dev nD) (t : Fin cfg0.N) (d) : (data m 0 c).before 0 t d = iblk m c 0 t :=
  before0_0_of m (data m 0 c) (data_A m c 0) (left0 m c) t d
/-- The body leaves window 1 at its block, -/
theorem left1 (c : Dev nD) (t : Fin cfg0.N) : (data m 0 c).after 1 t = iblk m c 1 t := by dsimp only [data]
/-- and finds it so. -/
theorem found1 (c : Dev nD) (t : Fin cfg0.N) (d) : (data m 0 c).before 1 t d = iblk m c 1 t :=
  before0_1_of m (data m 0 c) (data_A m c 1) (left1 m c) t d
/-- The body leaves window 2 at its block, -/
theorem left2 (c : Dev nD) (t : Fin cfg0.N) : (data m 0 c).after 2 t = iblk m c 2 t := by dsimp only [data]
/-- and finds it so. -/
theorem found2 (c : Dev nD) (t : Fin cfg0.N) (d) : (data m 0 c).before 2 t d = iblk m c 2 t :=
  before0_2_of m (data m 0 c) (data_A m c 2) (left2 m c) t d
/-- The body leaves window 3 at its block, -/
theorem left3 (c : Dev nD) (t : Fin cfg0.N) : (data m 0 c).after 3 t = iblk m c 3 t := by dsimp only [data]
/-- and finds it so. -/
theorem found3 (c : Dev nD) (t : Fin cfg0.N) (d) : (data m 0 c).before 3 t d = iblk m c 3 t :=
  before0_3_of m (data m 0 c) (data_A m c 3) (left3 m c) t d
/-- The body leaves window 4 at its block, -/
theorem left4 (c : Dev nD) (t : Fin cfg0.N) : (data m 0 c).after 4 t = iblk m c 4 t := by dsimp only [data]
/-- and finds it so. -/
theorem found4 (c : Dev nD) (t : Fin cfg0.N) (d) : (data m 0 c).before 4 t d = iblk m c 4 t :=
  before0_4_of m (data m 0 c) (data_A m c 4) (left4 m c) t d
/-- The body leaves window 5 at its block, -/
theorem left5 (c : Dev nD) (t : Fin cfg0.N) : (data m 0 c).after 5 t = iblk m c 5 t := by dsimp only [data]
/-- and finds it so. -/
theorem found5 (c : Dev nD) (t : Fin cfg0.N) (d) : (data m 0 c).before 5 t d = iblk m c 5 t :=
  before0_5_of m (data m 0 c) (data_A m c 5) (left5 m c) t d
/-- The body leaves window 6 at its block, -/
theorem left6 (c : Dev nD) (t : Fin cfg0.N) : (data m 0 c).after 6 t = iblk m c 6 t := by dsimp only [data]
/-- and finds it so. -/
theorem found6 (c : Dev nD) (t : Fin cfg0.N) (d) : (data m 0 c).before 6 t d = iblk m c 6 t :=
  before0_6_of m (data m 0 c) (data_A m c 6) (left6 m c) t d
/-- The body leaves window 7 at its block, -/
theorem left7 (c : Dev nD) (t : Fin cfg0.N) : (data m 0 c).after 7 t = iblk m c 7 t := by dsimp only [data]
/-- and finds it so. -/
theorem found7 (c : Dev nD) (t : Fin cfg0.N) (d) : (data m 0 c).before 7 t d = iblk m c 7 t :=
  before0_7_of m (data m 0 c) (data_A m c 7) (left7 m c) t d
/-- The body leaves window 8 at its block, -/
theorem left8 (c : Dev nD) (t : Fin cfg0.N) : (data m 0 c).after 8 t = iblk m c 8 t := by dsimp only [data]
/-- and finds it so. -/
theorem found8 (c : Dev nD) (t : Fin cfg0.N) (d) : (data m 0 c).before 8 t d = iblk m c 8 t :=
  before0_8_of m (data m 0 c) (data_A m c 8) (left8 m c) t d
/-- The body leaves window 9 at its block, -/
theorem left9 (c : Dev nD) (t : Fin cfg0.N) : (data m 0 c).after 9 t = iblk m c 9 t := by dsimp only [data]
/-- and finds it so. -/
theorem found9 (c : Dev nD) (t : Fin cfg0.N) (d) : (data m 0 c).before 9 t d = iblk m c 9 t :=
  before0_9_of m (data m 0 c) (data_A m c 9) (left9 m c) t d
/-- The body leaves window 10 at its block, -/
theorem left10 (c : Dev nD) (t : Fin cfg0.N) : (data m 0 c).after 10 t = iblk m c 10 t := by dsimp only [data]
/-- and finds it so. -/
theorem found10 (c : Dev nD) (t : Fin cfg0.N) (d) : (data m 0 c).before 10 t d = iblk m c 10 t :=
  before0_10_of m (data m 0 c) (data_A m c 10) (left10 m c) t d
/-- The body leaves window 11 at its block, -/
theorem left11 (c : Dev nD) (t : Fin cfg0.N) : (data m 0 c).after 11 t = iblk m c 11 t := by dsimp only [data]
/-- and finds it so. -/
theorem found11 (c : Dev nD) (t : Fin cfg0.N) (d) : (data m 0 c).before 11 t d = iblk m c 11 t :=
  before0_11_of m (data m 0 c) (data_A m c 11) (left11 m c) t d
/-- The body leaves window 12 at its block, -/
theorem left12 (c : Dev nD) (t : Fin cfg0.N) : (data m 0 c).after 12 t = iblk m c 12 t := by dsimp only [data]
/-- and finds it so. -/
theorem found12 (c : Dev nD) (t : Fin cfg0.N) (d) : (data m 0 c).before 12 t d = iblk m c 12 t :=
  before0_12_of m (data m 0 c) (data_A m c 12) (left12 m c) t d
/-- The body leaves window 13 at its block, -/
theorem left13 (c : Dev nD) (t : Fin cfg0.N) : (data m 0 c).after 13 t = iblk m c 13 t := by dsimp only [data]
/-- and finds it so. -/
theorem found13 (c : Dev nD) (t : Fin cfg0.N) (d) : (data m 0 c).before 13 t d = iblk m c 13 t :=
  before0_13_of m (data m 0 c) (data_A m c 13) (left13 m c) t d
/-- The body leaves window 14 at its block, -/
theorem left14 (c : Dev nD) (t : Fin cfg0.N) : (data m 0 c).after 14 t = iblk m c 14 t := by dsimp only [data]
/-- and finds it so. -/
theorem found14 (c : Dev nD) (t : Fin cfg0.N) (d) : (data m 0 c).before 14 t d = iblk m c 14 t :=
  before0_14_of m (data m 0 c) (data_A m c 14) (left14 m c) t d

/-- What the body is called with at a grid point, -/
def pre (c : Dev nD) (t : Fin cfg0.N) : sProp 𝕄s :=
  iprop((data m 0 c).Φ t.castSucc ∗ (data m 0 c).owesAt () t.castSucc
    ∗ (∃ d, owns (c : Thread nD τ) (buf0 t) fullShare ((data m 0 c).before 0 t d))
    ∗ (∃ d, owns (c : Thread nD τ) (buf1 t) fullShare ((data m 0 c).before 1 t d))
    ∗ (∃ d, owns (c : Thread nD τ) (buf2 t) fullShare ((data m 0 c).before 2 t d))
    ∗ (∃ d, owns (c : Thread nD τ) (buf3 t) fullShare ((data m 0 c).before 3 t d))
    ∗ (∃ d, owns (c : Thread nD τ) (buf4 t) fullShare ((data m 0 c).before 4 t d))
    ∗ (∃ d, owns (c : Thread nD τ) (buf5 t) fullShare ((data m 0 c).before 5 t d))
    ∗ (∃ d, owns (c : Thread nD τ) (buf6 t) fullShare ((data m 0 c).before 6 t d))
    ∗ (∃ d, owns (c : Thread nD τ) (buf7 t) fullShare ((data m 0 c).before 7 t d))
    ∗ (∃ d, owns (c : Thread nD τ) (buf8 t) fullShare ((data m 0 c).before 8 t d))
    ∗ (∃ d, owns (c : Thread nD τ) (buf9 t) fullShare ((data m 0 c).before 9 t d))
    ∗ (∃ d, owns (c : Thread nD τ) (buf10 t) fullShare ((data m 0 c).before 10 t d))
    ∗ (∃ d, owns (c : Thread nD τ) (buf11 t) fullShare ((data m 0 c).before 11 t d))
    ∗ (∃ d, owns (c : Thread nD τ) (buf12 t) fullShare ((data m 0 c).before 12 t d))
    ∗ (∃ d, owns (c : Thread nD τ) (buf13 t) fullShare ((data m 0 c).before 13 t d))
    ∗ (∃ d, owns (c : Thread nD τ) (buf14 t) fullShare ((data m 0 c).before 14 t d))
    ∗ (∃ d, owns (c : Thread nD τ) (buf15 t) fullShare d))

/-- and what it returns. -/
def post (c : Dev nD) (t : Fin cfg0.N) : sProp 𝕄s :=
  iprop((data m 0 c).Φ t.succ ∗ (data m 0 c).owesAt () t.succ
    ∗ owns (c : Thread nD τ) (buf0 t) fullShare ((data m 0 c).after 0 t)
    ∗ owns (c : Thread nD τ) (buf1 t) fullShare ((data m 0 c).after 1 t)
    ∗ owns (c : Thread nD τ) (buf2 t) fullShare ((data m 0 c).after 2 t)
    ∗ owns (c : Thread nD τ) (buf3 t) fullShare ((data m 0 c).after 3 t)
    ∗ owns (c : Thread nD τ) (buf4 t) fullShare ((data m 0 c).after 4 t)
    ∗ owns (c : Thread nD τ) (buf5 t) fullShare ((data m 0 c).after 5 t)
    ∗ owns (c : Thread nD τ) (buf6 t) fullShare ((data m 0 c).after 6 t)
    ∗ owns (c : Thread nD τ) (buf7 t) fullShare ((data m 0 c).after 7 t)
    ∗ owns (c : Thread nD τ) (buf8 t) fullShare ((data m 0 c).after 8 t)
    ∗ owns (c : Thread nD τ) (buf9 t) fullShare ((data m 0 c).after 9 t)
    ∗ owns (c : Thread nD τ) (buf10 t) fullShare ((data m 0 c).after 10 t)
    ∗ owns (c : Thread nD τ) (buf11 t) fullShare ((data m 0 c).after 11 t)
    ∗ owns (c : Thread nD τ) (buf12 t) fullShare ((data m 0 c).after 12 t)
    ∗ owns (c : Thread nD τ) (buf13 t) fullShare ((data m 0 c).after 13 t)
    ∗ owns (c : Thread nD τ) (buf14 t) fullShare ((data m 0 c).after 14 t)
    ∗ (∃ d, owns (c : Thread nD τ) (buf15 t) fullShare d))

set_option maxHeartbeats 2000000 in
/-- The body at a grid point: it finds the blocks, runs by `body_run`, and gives everything back. -/
theorem point (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, found5, found6, found7, found8, found9, found10, found11, found12, found13, found14]
  rw [show (data m 0 c).Φ t.succ = (data m 0 c).Φ t.castSucc from rfl,
    show (data m 0 c).owesAt () t.succ = (data m 0 c).owesAt () t.castSucc from rfl,
    left0, left1, left2, left3, left4, left5, left6, left7, left8, left9, left10, left11, left12, left13, left14]
  rw [show (data m 0 c).Φ t.castSucc = Pipeline.ΦA spec0 c from rfl, between_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, H12, H13, H14, H15, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The program's table has the body at its row. -/
theorem row (t : Fin cfg0.N) :
    defs₀ (F := F) .tc cfg0.body (cfg0.bodyArgs t (cfg0.slots t)) = bodyAt0 t := by
  unfold defs₀; rw [Defs.onTc_tc]

/-- The body does what the pipeline asks of it at every grid point. -/
theorem obligation (c : Dev nD) :
    BodyObligation (data (F := F) m 0 c) (defs₀ (F := F)) Variants.none () Set.univ unsaid := fun t => by
  rw [bigSep_W0, bigSep_W0, row]
  exact triple_restated (point m c t) rfl .rfl fun _ => .rfl

set_option backward.isDefEq.respectTransparency.types false in
/-- The program runs to its end; the input arrays stay, and every semaphore is at zero. -/
theorem runs : θ_run defs (onTc (τ := τ) (main (F := F))) (s₀ m ρ) (fun r =>
    (Pipeline.RDat.FramePost (cfgs 0) (fun c => (data m 0 c).toRForget unsaid) (V m)) r ∧ r.2.sem = fun _ => 0) :=
  Pipeline.θ_run_frame_forget_shared (Q' := _) cfgs (data m) (0 : Fin 1) launch₀0 defs₀ Variants.none unsaid m ρ main
    (hbody := fun c => (obligation m c).loose) (hq := fun _ _ _ => rfl)
    (howed := fun _ _ => rfl) (V := V m) (hmain := hmain m Variants.none) (hA := data_A m) (hΦ := fun _ _ => rfl)

/-- So the arguments end as they were. -/
theorem kept (hA : ∀ (c : Dev nD) w, ((data m 0 c).toRForget unsaid).A w = V m c (Pipeline.arrRef spec0 w)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 2 rfl).trans ((hA c 2).trans (V_main_arg0 m c)),
      (Pipeline.RDat.FramePost.arr_in h c 3 rfl).trans ((hA c 3).trans (V_main_arg1 m c)),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 8 rfl).trans ((hA c 8).trans (V_main_arg4 m c)),
      (Pipeline.RDat.FramePost.arr_in h c 9 rfl).trans ((hA c 9).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (Pipeline.RDat.FramePost.arr_in h c 14 rfl).trans ((hA c 14).trans (V_main_arg8 m c))⟩)
    ((θ_run defs _ _).mono (fun _ h => h.1) (runs m ρ))

/-- The program runs to its end, its arguments end as they were, and every semaphore is at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (kept m ρ (data_A m)) ((θ_run defs _ _).mono (fun _ h => h.2) (runs m ρ))

end Cert.GdnIdeal.Scan

end
-- ==== Proof.InQkv.lean ====
module

public import proofs.«01_k».proof.Defs
public import proofs.«01_k».proof.Proof.Gen.InQkvIdeal.Frame
public import proofs.«01_k».proof.Proof.Gen.InQkvRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InQkvIdeal.Value
open Cert.InQkvIdeal Cert.InQkvIdeal.Gen

variable (m : (ℓ : Loc nD τ sig) → Buf (Elt Ideal) ℓ)

/-- The columns 0 … 8191 of `h · w_in`, as a function of the two arguments. -/
def G (X : FVec Ideal S16384x2048 .bf16) (W : FVec Ideal S1x2048x22656 .f32) : FVec Ideal S16384x8192 .bf16 :=
  fun i => ∑ k : Fin 2048, X (ix2 (i 0) k) * W (ix3 0 k ⟨0 + (i 1).val, by have := (i 1).isLt; simp at this; omega⟩)

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InQkvIdeal.Value

/-- The projection call computes the reference's columns. -/
theorem Cert.Proof.algebraic_in_qkv : Cert.algebraic_InQkvIdeal_InQkvRefIdeal := by
  pair_intro
  · run_from Cert.InQkvIdeal.Gen.run_main m g
  · hlo_run
    rw [Cert.InQkvIdeal.Value.final m c]
    funext i
    idx_vars i
    pointwise [Cert.InQkvIdeal.Value.G]
-- ==== Proof.InAb.lean ====
module

public import proofs.«01_k».proof.Defs
public import proofs.«01_k».proof.Proof.Gen.InAbIdeal.Frame
public import proofs.«01_k».proof.Proof.Gen.InAbRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InAbIdeal.Value
open Cert.InAbIdeal Cert.InAbIdeal.Gen

variable (m : (ℓ : Loc nD τ sig) → Buf (Elt Ideal) ℓ)

/-- The columns 8192 … 8319 of `h · w_in`, as a function of the two arguments. -/
def G (X : FVec Ideal S16384x2048 .bf16) (W : FVec Ideal S1x2048x22656 .f32) : FVec Ideal S16384x128 .f32 :=
  fun i => ∑ k : Fin 2048, X (ix2 (i 0) k) * W (ix3 0 k ⟨8192 + (i 1).val, by have := (i 1).isLt; simp at this; omega⟩)

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InAbIdeal.Value

/-- The projection call computes the reference's columns. -/
theorem Cert.Proof.algebraic_in_ab : Cert.algebraic_InAbIdeal_InAbRefIdeal := by
  pair_intro
  · run_from Cert.InAbIdeal.Gen.run_main m g
  · hlo_run
    rw [Cert.InAbIdeal.Value.final m c]
    funext i
    idx_vars i
    pointwise [Cert.InAbIdeal.Value.G]
-- ==== Proof.InZ.lean ====
module

public import proofs.«01_k».proof.Defs
public import proofs.«01_k».proof.Proof.Gen.InZIdeal.Frame
public import proofs.«01_k».proof.Proof.Gen.InZRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InZIdeal.Value
open Cert.InZIdeal Cert.InZIdeal.Gen

variable (m : (ℓ : Loc nD τ sig) → Buf (Elt Ideal) ℓ)

/-- The columns 8320 … 12415 of `h · w_in`, as a function of the two arguments. -/
def G (X : FVec Ideal S16384x2048 .bf16) (W : FVec Ideal S1x2048x22656 .f32) : FVec Ideal S16384x4096 .bf16 :=
  fun i => ∑ k : Fin 2048, X (ix2 (i 0) k) * W (ix3 0 k ⟨8320 + (i 1).val, by have := (i 1).isLt; simp at this; omega⟩)

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InZIdeal.Value

/-- The projection call computes the reference's columns. -/
theorem Cert.Proof.algebraic_in_z : Cert.algebraic_InZIdeal_InZRefIdeal := by
  pair_intro
  · run_from Cert.InZIdeal.Gen.run_main m g
  · hlo_run
    rw [Cert.InZIdeal.Value.final m c]
    funext i
    idx_vars i
    pointwise [Cert.InZIdeal.Value.G]
-- ==== Proof.InConv.lean ====
module

public import proofs.«01_k».proof.Defs
public import proofs.«01_k».proof.Proof.Gen.InConvIdeal.Frame
public import proofs.«01_k».proof.Proof.Gen.InConvRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InConvIdeal.Value
open Cert.InConvIdeal Cert.InConvIdeal.Gen

variable (m : (ℓ : Loc nD τ sig) → Buf (Elt Ideal) ℓ)

/-- The columns 12416 … 18559 of `h · w_in`, as a function of the two arguments. -/
def G (X : FVec Ideal S16384x2048 .bf16) (W : FVec Ideal S1x2048x22656 .f32) : FVec Ideal S16384x6144 .bf16 :=
  fun i => ∑ k : Fin 2048, X (ix2 (i 0) k) * W (ix3 0 k ⟨12416 + (i 1).val, by have := (i 1).isLt; simp at this; omega⟩)

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InConvIdeal.Value

/-- The projection call computes the reference's columns. -/
theorem Cert.Proof.algebraic_in_conv : Cert.algebraic_InConvIdeal_InConvRefIdeal := by
  pair_intro
  · run_from Cert.InConvIdeal.Gen.run_main m g
  · hlo_run
    rw [Cert.InConvIdeal.Value.final m c]
    funext i
    idx_vars i
    pointwise [Cert.InConvIdeal.Value.G]
-- ==== Proof.InGate.lean ====
module

public import proofs.«01_k».proof.Defs
public import proofs.«01_k».proof.Proof.Gen.InGateIdeal.Frame
public import proofs.«01_k».proof.Proof.Gen.InGateRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InGateIdeal.Value
open Cert.InGateIdeal Cert.InGateIdeal.Gen

variable (m : (ℓ : Loc nD τ sig) → Buf (Elt Ideal) ℓ)

/-- The columns 18560 … 22655 of `h · w_in`, as a function of the two arguments. -/
def G (X : FVec Ideal S16384x2048 .bf16) (W : FVec Ideal S1x2048x22656 .f32) : FVec Ideal S16384x4096 .bf16 :=
  fun i => ∑ k : Fin 2048, X (ix2 (i 0) k) * W (ix3 0 k ⟨18560 + (i 1).val, by have := (i 1).isLt; simp at this; omega⟩)

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InGateIdeal.Value

/-- The projection call computes the reference's columns. -/
theorem Cert.Proof.algebraic_in_gate : Cert.algebraic_InGateIdeal_InGateRefIdeal := by
  pair_intro
  · run_from Cert.InGateIdeal.Gen.run_main m g
  · hlo_run
    rw [Cert.InGateIdeal.Value.final m c]
    funext i
    idx_vars i
    pointwise [Cert.InGateIdeal.Value.G]
-- ==== Proof.CtxQkv.lean ====
module

public import proofs.«01_k».proof.Defs
public import proofs.«01_k».proof.Proof.Gen.CtxQkvIdeal.Frame
public import proofs.«01_k».proof.Proof.Gen.CtxQkvRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxQkvIdeal.Value
open Cert.CtxQkvIdeal Cert.CtxQkvIdeal.Gen

variable (m : (ℓ : Loc nD τ sig) → Buf (Elt Ideal) ℓ)

/-- The columns 0 … 8191 of `hc · w_in`, as a function of the two arguments. -/
def G (X : FVec Ideal S1024x2048 .bf16) (W : FVec Ideal S1x2048x22656 .f32) : FVec Ideal S1024x8192 .bf16 :=
  fun i => ∑ k : Fin 2048, X (ix2 (i 0) k) * W (ix3 0 k ⟨0 + (i 1).val, by have := (i 1).isLt; simp at this; omega⟩)

/-- Which block of each array grid point `t` works on. -/
theorem idx : ∀ t : Fin cfg0.N, win0_0.index t = ![t.val % 1, 0] ∧ win0_1.index t = ![0, t.val / 1]
    ∧ win0_2.index t = ![t.val % 1, t.val / 1] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.CtxQkvIdeal.Value

/-- The projection call computes the reference's columns. -/
theorem Cert.Proof.algebraic_ctx_qkv : Cert.algebraic_CtxQkvIdeal_CtxQkvRefIdeal := by
  pair_intro
  · run_from Cert.CtxQkvIdeal.Gen.run_main m g
  · hlo_run
    rw [Cert.CtxQkvIdeal.Value.final m c]
    funext i
    idx_vars i
    pointwise [Cert.CtxQkvIdeal.Value.G]
-- ==== Proof.CtxAb.lean ====
module

public import proofs.«01_k».proof.Defs
public import proofs.«01_k».proof.Proof.Gen.CtxAbIdeal.Frame
public import proofs.«01_k».proof.Proof.Gen.CtxAbRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxAbIdeal.Value
open Cert.CtxAbIdeal Cert.CtxAbIdeal.Gen

variable (m : (ℓ : Loc nD τ sig) → Buf (Elt Ideal) ℓ)

/-- The columns 8192 … 8319 of `hc · w_in`, as a function of the two arguments. -/
def G (X : FVec Ideal S1024x2048 .bf16) (W : FVec Ideal S1x2048x22656 .f32) : FVec Ideal S1024x128 .f32 :=
  fun i => ∑ k : Fin 2048, X (ix2 (i 0) k) * W (ix3 0 k ⟨8192 + (i 1).val, by have := (i 1).isLt; simp at this; omega⟩)

/-- Which block of each array grid point `t` works on. -/
theorem idx : ∀ t : Fin cfg0.N, win0_0.index t = ![t.val % 1, 0] ∧ win0_1.index t = ![0, t.val / 1]
    ∧ win0_2.index t = ![t.val % 1, t.val / 1] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.CtxAbIdeal.Value

/-- The projection call computes the reference's columns. -/
theorem Cert.Proof.algebraic_ctx_ab : Cert.algebraic_CtxAbIdeal_CtxAbRefIdeal := by
  pair_intro
  · run_from Cert.CtxAbIdeal.Gen.run_main m g
  · hlo_run
    rw [Cert.CtxAbIdeal.Value.final m c]
    funext i
    idx_vars i
    pointwise [Cert.CtxAbIdeal.Value.G]
-- ==== Proof.ProjA.lean ====
module

public import proofs.«01_k».proof.Defs
public import proofs.«01_k».proof.Proof.Gen.ProjAIdeal.Frame
public import proofs.«01_k».proof.Proof.Gen.ProjARefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjAIdeal.Value
open Cert.ProjAIdeal Cert.ProjAIdeal.Gen

variable (m : (ℓ : Loc nD τ sig) → Buf (Elt Ideal) ℓ)

/-- `ya_in · w_proj_a`, as a function of the two arguments. -/
def G (X : FVec Ideal S16384x2048 .bf16) (W : FVec Ideal S1x2048x2048 .f32) : FVec Ideal S16384x2048 .bf16 :=
  fun i => ∑ k : Fin 2048, X (ix2 (i 0) k) * W (ix3 0 k (i 1))

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjAIdeal.Value

/-- The projection call computes the reference's product. -/
theorem Cert.Proof.algebraic_proj_a : Cert.algebraic_ProjAIdeal_ProjARefIdeal := by
  pair_intro
  · run_from Cert.ProjAIdeal.Gen.run_main m g
  · hlo_run
    rw [Cert.ProjAIdeal.Value.final m c]
    funext i
    idx_vars i
    pointwise [Cert.ProjAIdeal.Value.G]
-- ==== Proof.ProjB.lean ====
module

public import proofs.«01_k».proof.Defs
public import proofs.«01_k».proof.Proof.Gen.ProjBIdeal.Frame
public import proofs.«01_k».proof.Proof.Gen.ProjBRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjBIdeal.Value
open Cert.ProjBIdeal Cert.ProjBIdeal.Gen

variable (m : (ℓ : Loc nD τ sig) → Buf (Elt Ideal) ℓ)

/-- `yb_in · w_proj_b`, as a function of the two arguments. -/
def G (X : FVec Ideal S16384x4096 .bf16) (W : FVec Ideal S1x4096x2048 .f32) : FVec Ideal S16384x2048 .bf16 :=
  fun i => ∑ k : Fin 4096, X (ix2 (i 0) k) * W (ix3 0 k (i 1))

/-- Which block of each array grid point `t` works on. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) y
      = G (m ((c : Thread nD τ).loc main_arg0)) (m ((c : Thread nD τ).loc main_arg1)) (((cfg0.win 2).blk t).view.emb y) := by
  pointwise [k0_pay1, G]
  blk_simp [iblk, idx t]
  refine Finset.sum_congr rfl fun k _ => ?_
  congr 1
  · entry_read
    blk_ext [idx t]
  · entry_read
    pointwise []
    blk_ext [idx t]

/-- The result array after the run is `G` of the arguments. -/
theorem final (c : Dev nD) : (dats m 0 c).arrAt 2 (cfgs 0).N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjBIdeal.Value

/-- The projection call computes the reference's product. -/
theorem Cert.Proof.algebraic_proj_b : Cert.algebraic_ProjBIdeal_ProjBRefIdeal := by
  pair_intro
  · run_from Cert.ProjBIdeal.Gen.run_main m g
  · hlo_run
    rw [Cert.ProjBIdeal.Value.final m c]
    funext i
    idx_vars i
    pointwise [Cert.ProjBIdeal.Value.G]
-- ==== Proof.Mixout.lean ====
module

public import proofs.«01_k».proof.Defs
public import proofs.«01_k».proof.Proof.Gen.MixoutIdeal.Frame
public import proofs.«01_k».proof.Proof.Gen.MixoutRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixoutIdeal.Value
open Cert.MixoutIdeal Cert.MixoutIdeal.Gen

variable (m : (ℓ : Loc nD τ sig) → Buf (Elt Ideal) ℓ)

/-- The logistic function on the extended reals. -/
def sigmoid (x : EReal) : EReal := Ideal.div 1 (1 + Ideal.exp (-x))

/-- The mixed output: `x + mod · ((sigmoid(pa) · ya + sigmoid(pb) · yb) · w_out)`, as a function of the six arguments. -/
def G (YA YB : FVec Ideal S4x4096x2048 .bf16) (P : FVec Ideal S4x4096x4096 .bf16) (W : FVec Ideal S1x2048x2048 .f32)
    (X : FVec Ideal S4x4096x2048 .f32) (M : FVec Ideal S8x6x2048 .f32) : FVec Ideal S4x4096x2048 .f32 :=
  fun i => X (ix3 (i 0) (i 1) (i 2)) + M (ix3 ⟨0 + (i 0).val, by have := (i 0).isLt; simp at this; omega⟩ 2 (i 2))
    * ∑ k : Fin 2048, (sigmoid (P (ix3 (i 0) (i 1) ⟨0 + k.val, by omega⟩)) * YA (ix3 (i 0) (i 1) k)
        + sigmoid (P (ix3 (i 0) (i 1) ⟨2048 + k.val, by omega⟩)) * YB (ix3 (i 0) (i 1) k)) * W (ix3 0 k (i 2))

/-- Which block of each array grid point `t` works on. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 1] ∧ win0_4.index t = ![0, 0]
    ∧ win0_5.index t = ![t.val / 8, t.val % 8, 0] ∧ win0_6.index t = ![t.val / 8, 0, 0] ∧ win0_7.index t = ![t.val / 8, t.val % 8, 0] :=
  (by decide +kernel : ∀ t : Fin grid0.N, _)

/-- What the body stores at index `y` of its block is `G` at the array index that `y` sits at. -/
theorem point (c : Dev nD) (t : Fin cfg0.N) (y) :
    k0_pay1 (k0_pay2 (iblk m c 2 t) (iblk m c 0 t) (iblk m c 3 t) (iblk m c 1 t) (iblk m c 4 t)) (iblk m c 6 t) (iblk m c 5 t) y
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 7).blk t).view.emb y) := by
  pointwise [k0_pay1, k0_pay2, G, sigmoid]
  simp only [zero_sub]
  blk_point [iblk, V, idx t]

/-- The result array after the run is `G` of the arguments. -/
theorem final (c : Dev nD) : (dats m 0 c).arrAt 7 (cfgs 0).N
    = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]; frame_out
  exact point m c t y

end Cert.MixoutIdeal.Value

/-- The mixing call computes the reference's mixed output. -/
theorem Cert.Proof.algebraic_mixout : Cert.algebraic_MixoutIdeal_MixoutRefIdeal := by
  pair_intro
  · run_from Cert.MixoutIdeal.Gen.run_main m g
  · hlo_run
    rw [Cert.MixoutIdeal.Value.final m c]
    funext i
    idx_vars i
    pointwise [Cert.MixoutIdeal.Value.G, Cert.MixoutIdeal.Value.sigmoid]
-- ==== Proof.Shared.lean ====
module

public import proofs.«01_k».proof.Defs
public import proofs.«01_k».proof.Proof.Gen.SharedIdeal.Frame
public import proofs.«01_k».proof.Proof.Gen.SharedRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SharedIdeal.Value
open Cert.SharedIdeal Cert.SharedIdeal.Gen

variable (m : (ℓ : Loc nD τ sig) → Buf (Elt Ideal) ℓ)

/-- `x · sigmoid x` on the extended reals. -/
def silu (x : EReal) : EReal := x * (Ideal.div 1 (1 + Ideal.exp (-x)))

/-- The shared expert: `(silu(h · wg) * (h · wu)) · wd`, as a function of the four arguments. -/
def G (H : FVec Ideal S16384x2048 .bf16) (WG WU : FVec Ideal S1x2048x512 .f32) (WD : FVec Ideal S1x512x2048 .f32) :
    FVec Ideal S16384x2048 .f32 :=
  fun i => ∑ k : Fin 512, silu (∑ l : Fin 2048, H (ix2 (i 0) l) * WG (ix3 0 l k))
    * (∑ l : Fin 2048, H (ix2 (i 0) l) * WU (ix3 0 l k)) * WD (ix3 0 k (i 1))

/-- Which block of each array grid point `t` works on. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) (iblk m c 2 t) (iblk m c 3 t) y
      = G (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay1, G, silu]
  simp only [zero_sub]
  blk_point [iblk, V, idx t]

/-- The result array after the run is `G` of the arguments. -/
theorem final (c : Dev nD) : (dats m 0 c).arrAt 4 (cfgs 0).N
    = G (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

end Cert.SharedIdeal.Value

/-- The shared expert call computes the reference's shared expert. -/
theorem Cert.Proof.algebraic_shared : Cert.algebraic_SharedIdeal_SharedRefIdeal := by
  pair_intro
  · run_from Cert.SharedIdeal.Gen.run_main m g
  · hlo_run
    rw [Cert.SharedIdeal.Value.final m c]
    funext i
    idx_vars i
    pointwise [Cert.SharedIdeal.Value.G, Cert.SharedIdeal.Value.silu]
-- ==== Proof.Ada.lean ====
module

public import proofs.«01_k».proof.Defs
public import proofs.«01_k».proof.Proof.Gen.AdaIdeal.Frame
public import proofs.«01_k».proof.Proof.Gen.AdaRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaIdeal.Value
open Cert.AdaIdeal Cert.AdaIdeal.Gen

variable (m : (ℓ : Loc nD τ sig) → Buf (Elt Ideal) ℓ)

/-- `x · sigmoid x` on the extended reals. -/
def silu (x : EReal) : EReal := x * Ideal.div 1 (1 + Ideal.exp (-x))

/-- The modulation rows: `silu(c) · w + b`, as a function of the three arguments. -/
def G (C : FVec Ideal S8x2048 .f32) (W : FVec Ideal S1x2048x12288 .f32) (B : FVec Ideal S1x12288 .f32) :
    FVec Ideal S8x12288 .f32 :=
  fun i => (∑ k : Fin 2048, silu (C (ix2 (i 0) k)) * W (ix3 0 k (i 1))) + B (ix2 0 (i 1))

/-- Which block of each array grid point `t` works on. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G, silu]
  simp only [zero_sub]
  blk_point [iblk, V, idx t]

/-- The result array after the run is `G` of the arguments. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.AdaIdeal.Value

/-- The modulation call computes the reference's modulation rows. -/
theorem Cert.Proof.algebraic_ada : Cert.algebraic_AdaIdeal_AdaRefIdeal := by
  pair_intro
  · run_from Cert.AdaIdeal.Gen.run_main m g
  · hlo_run
    rw [Cert.AdaIdeal.Value.final m c]
    funext i
    idx_vars i
    pointwise [Cert.AdaIdeal.Value.G, Cert.AdaIdeal.Value.silu]
-- ==== Proof.Norm.lean ====
module

public import proofs.«01_k».proof.Defs
public import proofs.«01_k».proof.Proof.Gen.NormIdeal.Frame
public import proofs.«01_k».proof.Proof.Gen.NormRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Value
open Cert.NormIdeal Cert.NormIdeal.Gen

variable (m : (ℓ : Loc nD τ sig) → Buf (Elt Ideal) ℓ)

/-- The modulated norm, `x · rsqrt(mean x² + ε) · w · (1 + scale) + shift`, as a function of the three arguments. -/
def G (X : FVec Ideal S4x4096x2048 .f32) (W : FVec Ideal S1x2048 .f32) (M : FVec Ideal S8x6x2048 .f32) :
    FVec Ideal S4x4096x2048 .bf16 :=
  fun i => X (ix3 (i 0) (i 1) (i 2))
      * Ideal.rsqrt (Ideal.div (∑ k : Fin 2048, X (ix3 (i 0) (i 1) k) * X (ix3 (i 0) (i 1) k)) (Ideal.ofBits .f32 0x45000000#32)
          + Ideal.ofBits .f32 0x358637BD#32)
      * W (ix2 0 (i 2)) * (1 + M (ix3 ⟨0 + (i 0).val, by have := (i 0).isLt; simp at this; omega⟩ 1 (i 2))) + M (ix3 ⟨0 + (i 0).val, by have := (i 0).isLt; simp at this; omega⟩ 0 (i 2))

/-- Which block of each array grid point `t` works on. -/
theorem idx : ∀ t : Fin cfg0.N, win0_0.index t = ![t.val / 8, t.val % 8, 0] ∧ win0_1.index t = ![0, 0] ∧ win0_2.index t = ![t.val / 8, 0, 0]
    ∧ win0_3.index t = ![t.val / 8, t.val % 8, 0] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G]
  blk_point [iblk, V, idx t]

/-- The result array after the run is `G` of the arguments. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.NormIdeal.Value

/-- The norm of the latent rows computes the reference's modulated norm. -/
theorem Cert.Proof.algebraic_norm : Cert.algebraic_NormIdeal_NormRefIdeal := by
  pair_intro
  · run_from Cert.NormIdeal.Gen.run_main m g
  · hlo_run
    rw [Cert.NormIdeal.Value.final m c]
    funext i
    idx_vars i
    pointwise [Cert.NormIdeal.Value.G]
-- ==== Proof.CtxNorm.lean ====
module

public import proofs.«01_k».proof.Defs
public import proofs.«01_k».proof.Proof.Gen.CtxNormIdeal.Frame
public import proofs.«01_k».proof.Proof.Gen.CtxNormRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxNormIdeal.Value
open Cert.CtxNormIdeal Cert.CtxNormIdeal.Gen

variable (m : (ℓ : Loc nD τ sig) → Buf (Elt Ideal) ℓ)

/-- The modulated norm, `x · rsqrt(mean x² + ε) · w · (1 + scale) + shift`, as a function of the three arguments. -/
def G (X : FVec Ideal S4x256x2048 .f32) (W : FVec Ideal S1x2048 .f32) (M : FVec Ideal S8x6x2048 .f32) :
    FVec Ideal S4x256x2048 .bf16 :=
  fun i => X (ix3 (i 0) (i 1) (i 2))
      * Ideal.rsqrt (Ideal.div (∑ k : Fin 2048, X (ix3 (i 0) (i 1) k) * X (ix3 (i 0) (i 1) k)) (Ideal.ofBits .f32 0x45000000#32)
          + Ideal.ofBits .f32 0x358637BD#32)
      * W (ix2 0 (i 2)) * (1 + M (ix3 4 1 (i 2))) + M (ix3 4 0 (i 2))

/-- Which block of each array grid point `t` works on. -/
theorem idx : ∀ t : Fin cfg0.N, win0_0.index t = ![t.val, 0, 0] ∧ win0_1.index t = ![0, 0] ∧ win0_2.index t = ![4, 0, 0]
    ∧ win0_3.index t = ![t.val, 0, 0] :=
  (by decide +kernel : ∀ t : Fin grid0.N, _)

/-- What the body stores at index `y` of its block is `G` at the array index that `y` sits at. -/
theorem point (c : Dev nD) (t : Fin cfg0.N) (y) :
    k0_pay1 (iblk m c 0 t) (iblk m c 1 t) (iblk m c 2 t) y
      = G (m ((c : Thread nD τ).loc main_arg0)) (m ((c : Thread nD τ).loc main_arg1)) (m ((c : Thread nD τ).loc main_arg2))
          (((cfg0.win 3).blk t).view.emb y) := by
  pointwise [k0_pay1, G]
  blk_point [iblk, V, idx t]

/-- The result array after the run is `G` of the arguments. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.CtxNormIdeal.Value

/-- The norm of the context rows computes the reference's modulated norm. -/
theorem Cert.Proof.algebraic_ctx_norm : Cert.algebraic_CtxNormIdeal_CtxNormRefIdeal := by
  pair_intro
  · run_from Cert.CtxNormIdeal.Gen.run_main m g
  · hlo_run
    rw [Cert.CtxNormIdeal.Value.final m c]
    funext i
    idx_vars i
    pointwise [Cert.CtxNormIdeal.Value.G]
-- ==== Proof.Conv.lean ====
module

public import proofs.«01_k».proof.Defs
public import proofs.«01_k».proof.Proof.Gen.ConvIdeal.Frame
public import proofs.«01_k».proof.Proof.Gen.ConvRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvIdeal.Value
open Cert.ConvIdeal Cert.ConvIdeal.Gen

variable (m : (ℓ : Loc nD τ sig) → Buf (Elt Ideal) ℓ)

/-- The gated input of the short convolution. -/
def u (P : FVec Ideal S16384x6144 .bf16) (r : Fin 16384) (c : Fin 2048) : EReal :=
  P (ix2 r ⟨2048 + c.val, by omega⟩) * P (ix2 r ⟨4096 + c.val, by omega⟩)

/-- The three-tap convolution along rows of 64 positions, gated, as a function of the two arguments. -/
def G (P : FVec Ideal S16384x6144 .bf16) (W : FVec Ideal S1x3x2048 .f32) : FVec Ideal S16384x2048 .bf16 :=
  fun i => P (ix2 (i 0) ⟨0 + (i 1).val, by have := (i 1).isLt; simp at this; omega⟩)
    * ((if (i 0).val % 64 = 0 then 0 else u P ⟨(i 0).val - 1, by have := (i 0).isLt; simp at this; omega⟩ (i 1)) * W (ix3 0 0 (i 1))
      + u P (i 0) (i 1) * W (ix3 0 1 (i 1))
      + (if (i 0).val % 64 = 63 then 0 else u P ⟨((i 0).val + 1) % 16384, Nat.mod_lt _ (by decide)⟩ (i 1)) * W (ix3 0 2 (i 1)))

/-- Which block of each array grid point `t` works on. -/
theorem idx : ∀ t : Fin cfg0.N, win0_0.index t = ![t.val / 4, t.val % 4] ∧ win0_1.index t = ![t.val / 4, 4 + t.val % 4]
    ∧ win0_2.index t = ![t.val / 4, 8 + t.val % 4] ∧ win0_3.index t = ![0, t.val % 4] ∧ win0_4.index t = ![t.val / 4, t.val % 4] :=
  (by decide +kernel : ∀ t : Fin grid0.N, _)

/-- The position of a row of a block within its 64-position line, as the body's integer arithmetic computes it. -/
theorem pos (j : S512x512.Idx) : k0_pay3 j = BitVec.ofNat 32 ((j 0).val % 64) := by
  pointwise [k0_pay3]
  generalize j 0 = n
  revert n
  decide +kernel

/-- A select on a position being the first of its line. -/
theorem sel0 (n : Fin 512) (a b : EReal) :
    Scalar.select (IntOp.cmpi CmpIPredicate.eq (BitVec.ofNat 32 (n.val % 64)) 0#32) a b = if n.val % 64 = 0 then a else b := by
  have h : ∀ n : Fin 512, IntOp.cmpi CmpIPredicate.eq (BitVec.ofNat 32 (n.val % 64)) 0#32 = if n.val % 64 = 0 then 1#1 else 0#1 := by
    decide +kernel
  rw [h]; split <;> rfl

/-- A select on a position being the last of its line. -/
theorem sel63 (n : Fin 512) (a b : EReal) :
    Scalar.select (IntOp.cmpi CmpIPredicate.eq (BitVec.ofNat 32 (n.val % 64)) 63#32) a b = if n.val % 64 = 63 then a else b := by
  have h : ∀ n : Fin 512, IntOp.cmpi CmpIPredicate.eq (BitVec.ofNat 32 (n.val % 64)) 63#32 = if n.val % 64 = 63 then 1#1 else 0#1 := by
    decide +kernel
  rw [h]; split <;> rfl

/-- What the body computes from its four blocks at row `r`, column `q`. -/
theorem body (A B C : FVec Ideal S512x512 .bf16) (W : FVec Ideal S3x512 .f32) (r q : Fin 512) :
    k0_pay1 (k0_pay4 B C) (k0_pay5 W) (k0_pay6 B C W) (k0_pay7 B C W) A (ix2 r q)
      = A (ix2 r q) * ((if r.val % 64 = 0 then 0 else B (ix2 ⟨(r.val + 512 - 1) % 512, Nat.mod_lt _ (by decide)⟩ q)
            * C (ix2 ⟨(r.val + 512 - 1) % 512, Nat.mod_lt _ (by decide)⟩ q) * W (ix2 0 q))
          + B (ix2 r q) * C (ix2 r q) * W (ix2 1 q)
          + (if r.val % 64 = 63 then 0 else B (ix2 ⟨(r.val + 512 - 511) % 512, Nat.mod_lt _ (by decide)⟩ q)
            * C (ix2 ⟨(r.val + 512 - 511) % 512, Nat.mod_lt _ (by decide)⟩ q) * W (ix2 2 q))) := by
  pointwise [k0_pay1, k0_pay2, k0_pay4, k0_pay5, k0_pay6, k0_pay7, pos]
  rw [sel0 r, sel63 r]

/-- The convolution at row `r`, column `c`. -/
theorem G_at (P : FVec Ideal S16384x6144 .bf16) (W : FVec Ideal S1x3x2048 .f32) (r : Fin 16384) (c : Fin 2048) :
    G P W (ix2 r c) = P (ix2 r ⟨0 + c.val, by omega⟩)
      * ((if r.val % 64 = 0 then 0 else u P ⟨r.val - 1, by omega⟩ c) * W (ix3 0 0 c)
        + u P r c * W (ix3 0 1 c)
        + (if r.val % 64 = 63 then 0 else u P ⟨(r.val + 1) % 16384, Nat.mod_lt _ (by decide)⟩ c) * W (ix3 0 2 c)) := rfl

/-- A grid point's row of blocks and column of blocks. -/
theorem tlt (t : Fin cfg0.N) : t.val / 4 < 32 := by
  have h : t.val < 128 := lt_of_lt_of_eq t.isLt (by decide)
  omega

/-- An array row from a block row and a row within the block. -/
def R (t : Fin cfg0.N) (r : Fin 512) : Fin 16384 := ⟨t.val / 4 * 512 + r.val, by have := tlt t; omega⟩

/-- An array column from a block column and a column within the block. -/
def Q (t : Fin cfg0.N) (q : Fin 512) : Fin 2048 := ⟨t.val % 4 * 512 + q.val, by omega⟩

/-- The gate's block, read in its array. -/
theorem gate_at (c : Dev nD) (t : Fin cfg0.N) (r q : Fin 512) :
    iblk m c 0 t (ix2 r q) = m ((c : Thread nD τ).loc main_arg0) (ix2 (R t r) ⟨0 + (Q t q).val, by have := (Q t q).isLt; omega⟩) := by
  unfold R Q
  blk_point [iblk, V, idx t]

/-- The second gate's block, read in its array. -/
theorem left_at (c : Dev nD) (t : Fin cfg0.N) (r q : Fin 512) :
    iblk m c 1 t (ix2 r q) = m ((c : Thread nD τ).loc main_arg0) (ix2 (R t r) ⟨2048 + (Q t q).val, by have := (Q t q).isLt; omega⟩) := by
  unfold R Q
  blk_point [iblk, V, idx t]

/-- The input's block, read in its array. -/
theorem right_at (c : Dev nD) (t : Fin cfg0.N) (r q : Fin 512) :
    iblk m c 2 t (ix2 r q) = m ((c : Thread nD τ).loc main_arg0) (ix2 (R t r) ⟨4096 + (Q t q).val, by have := (Q t q).isLt; omega⟩) := by
  unfold R Q
  blk_point [iblk, V, idx t]

/-- The taps' block, read in its array. -/
theorem tap_at (c : Dev nD) (t : Fin cfg0.N) (k : Fin 3) (q : Fin 512) :
    iblk m c 3 t (ix2 k q) = m ((c : Thread nD τ).loc main_arg1) (ix3 0 k (Q t q)) := by
  unfold Q
  blk_point [iblk, V, idx t]

/-- Where a block's index sits in the result. -/
theorem emb_at (t : Fin cfg0.N) (r q : Fin 512) : ((cfg0.win 4).blk t).view.emb (ix2 r q) = ix2 (R t r) (Q t q) := by
  unfold R Q
  blk_point [idx t]

/-- What the body stores at an index of its block is `G` at the array index that it sits at. -/
theorem point (c : Dev nD) (t : Fin cfg0.N) (r q : Fin 512) :
    k0_pay1 (k0_pay4 (iblk m c 1 t) (iblk m c 2 t)) (k0_pay5 (iblk m c 3 t)) (k0_pay6 (iblk m c 1 t) (iblk m c 2 t) (iblk m c 3 t))
        (k0_pay7 (iblk m c 1 t) (iblk m c 2 t) (iblk m c 3 t)) (iblk m c 0 t) (ix2 r q)
      = G (m ((c : Thread nD τ).loc main_arg0)) (m ((c : Thread nD τ).loc main_arg1)) (ix2 (R t r) (Q t q)) := by
  rw [body, G_at]
  simp only [gate_at, left_at, right_at, tap_at, u]
  have hR : (R t r).val = t.val / 4 * 512 + r.val := rfl
  have ht := tlt t
  have e0 : (R t r).val % 64 = r.val % 64 := by omega
  rw [e0]
  by_cases h0 : r.val % 64 = 0
  · have h1 : ¬ r.val % 64 = 63 := by omega
    have i1 : R t ⟨(r.val + 512 - 511) % 512, Nat.mod_lt _ (by decide)⟩ = ⟨((R t r).val + 1) % 16384, Nat.mod_lt _ (by decide)⟩ :=
      Fin.ext (by simp only [R]; omega)
    rw [if_pos h0, if_pos h0, if_neg h1, if_neg h1, i1, zero_mul]
  · have i0 : R t ⟨(r.val + 512 - 1) % 512, Nat.mod_lt _ (by decide)⟩ = ⟨(R t r).val - 1, by have := (R t r).isLt; omega⟩ :=
      Fin.ext (by simp only [R]; omega)
    rw [if_neg h0, if_neg h0, i0]
    by_cases h1 : r.val % 64 = 63
    · rw [if_pos h1, if_pos h1, zero_mul]
    · have i1 : R t ⟨(r.val + 512 - 511) % 512, Nat.mod_lt _ (by decide)⟩ = ⟨((R t r).val + 1) % 16384, Nat.mod_lt _ (by decide)⟩ :=
        Fin.ext (by simp only [R]; omega)
      rw [if_neg h1, if_neg h1, i1]

/-- The result array after the run is `G` of the arguments. -/
theorem final (c : Dev nD) : (dats m 0 c).arrAt 4 (cfgs 0).N
    = G (m ((c : Thread nD τ).loc main_arg0)) (m ((c : Thread nD τ).loc main_arg1)) := by
  refine (dats m 0 c).arrAt_eq_of_covers 4 _ (by decide +kernel) fun t _ y => ?_
  blk_simp
  rw [after0_4]; frame_out
  obtain ⟨r, q, rfl⟩ : ∃ r q : Fin 512, y = ix2 r q := ⟨y 0, y 1, by funext k; fin_cases k <;> rfl⟩
  exact (point m c t r q).trans (congrArg _ (emb_at t r q).symm)

/-- The reference's padded rows of 64 positions hold the gated input one step to the left, in place and one step to the right,
and zero beyond the two ends of a row. -/
theorem taps (P : FVec Ideal S16384x6144 .bf16) (W : FVec Ideal S1x3x2048 .f32) (r : Fin 16384) (q : Fin 2048) :
    P (ix2 ⟨r.val / 4096 * 4096 + r.val % 4096, by omega⟩ ⟨q.val, by omega⟩)
      * ((if h : r.val % 4096 / 64 < 64 ∧ 1 ≤ r.val % 4096 % 64 ∧ r.val % 4096 % 64 - 1 < 64 then
            P (ix2 ⟨r.val / 4096 * 4096 + (r.val % 4096 / 64 * 64 + (r.val % 4096 % 64 - 1)), by omega⟩ ⟨2048 + q.val, by omega⟩)
              * P (ix2 ⟨r.val / 4096 * 4096 + (r.val % 4096 / 64 * 64 + (r.val % 4096 % 64 - 1)), by omega⟩ ⟨4096 + q.val, by omega⟩)
          else 0) * W (ix3 0 0 q)
        + (if h : r.val % 4096 / 64 < 64 ∧ r.val % 4096 % 64 < 64 then
            P (ix2 ⟨r.val / 4096 * 4096 + (r.val % 4096 / 64 * 64 + r.val % 4096 % 64), by omega⟩ ⟨2048 + q.val, by omega⟩)
              * P (ix2 ⟨r.val / 4096 * 4096 + (r.val % 4096 / 64 * 64 + r.val % 4096 % 64), by omega⟩ ⟨4096 + q.val, by omega⟩)
          else 0) * W (ix3 0 1 q)
        + (if h : r.val % 4096 / 64 < 64 ∧ 1 ≤ 2 + r.val % 4096 % 64 ∧ 2 + r.val % 4096 % 64 - 1 < 64 then
            P (ix2 ⟨r.val / 4096 * 4096 + (r.val % 4096 / 64 * 64 + (2 + r.val % 4096 % 64 - 1)), by omega⟩ ⟨2048 + q.val, by omega⟩)
              * P (ix2 ⟨r.val / 4096 * 4096 + (r.val % 4096 / 64 * 64 + (2 + r.val % 4096 % 64 - 1)), by omega⟩ ⟨4096 + q.val, by omega⟩)
          else 0) * W (ix3 0 2 q))
      = P (ix2 r ⟨q.val, by omega⟩)
        * ((if r.val % 64 = 0 then 0 else
              P (ix2 ⟨r.val - 1, by omega⟩ ⟨2048 + q.val, by omega⟩) * P (ix2 ⟨r.val - 1, by omega⟩ ⟨4096 + q.val, by omega⟩)) * W (ix3 0 0 q)
          + P (ix2 r ⟨2048 + q.val, by omega⟩) * P (ix2 r ⟨4096 + q.val, by omega⟩) * W (ix3 0 1 q)
          + (if r.val % 64 = 63 then 0 else
              P (ix2 ⟨(r.val + 1) % 16384, by omega⟩ ⟨2048 + q.val, by omega⟩) * P (ix2 ⟨(r.val + 1) % 16384, by omega⟩ ⟨4096 + q.val, by omega⟩)) * W (ix3 0 2 q)) := by
  have a0 : r.val / 4096 * 4096 + r.val % 4096 = r.val := by omega
  have a1 : r.val / 4096 * 4096 + (r.val % 4096 / 64 * 64 + r.val % 4096 % 64) = r.val := by omega
  have b1 : r.val % 4096 / 64 < 64 ∧ r.val % 4096 % 64 < 64 := by omega
  have left : (if h : r.val % 4096 / 64 < 64 ∧ 1 ≤ r.val % 4096 % 64 ∧ r.val % 4096 % 64 - 1 < 64 then
            P (ix2 ⟨r.val / 4096 * 4096 + (r.val % 4096 / 64 * 64 + (r.val % 4096 % 64 - 1)), by omega⟩ ⟨2048 + q.val, by omega⟩)
              * P (ix2 ⟨r.val / 4096 * 4096 + (r.val % 4096 / 64 * 64 + (r.val % 4096 % 64 - 1)), by omega⟩ ⟨4096 + q.val, by omega⟩)
          else (0 : EReal))
      = (if r.val % 64 = 0 then 0 else
              P (ix2 ⟨r.val - 1, by omega⟩ ⟨2048 + q.val, by omega⟩) * P (ix2 ⟨r.val - 1, by omega⟩ ⟨4096 + q.val, by omega⟩)) := by
    by_cases z : r.val % 64 = 0
    · rw [dif_neg (by omega), if_pos z]
    · rw [dif_pos (by omega), if_neg z]
      have e : r.val / 4096 * 4096 + (r.val % 4096 / 64 * 64 + (r.val % 4096 % 64 - 1)) = r.val - 1 := by omega
      simp only [e]
  have right : (if h : r.val % 4096 / 64 < 64 ∧ 1 ≤ 2 + r.val % 4096 % 64 ∧ 2 + r.val % 4096 % 64 - 1 < 64 then
            P (ix2 ⟨r.val / 4096 * 4096 + (r.val % 4096 / 64 * 64 + (2 + r.val % 4096 % 64 - 1)), by omega⟩ ⟨2048 + q.val, by omega⟩)
              * P (ix2 ⟨r.val / 4096 * 4096 + (r.val % 4096 / 64 * 64 + (2 + r.val % 4096 % 64 - 1)), by omega⟩ ⟨4096 + q.val, by omega⟩)
          else (0 : EReal))
      = (if r.val % 64 = 63 then 0 else
              P (ix2 ⟨(r.val + 1) % 16384, by omega⟩ ⟨2048 + q.val, by omega⟩) * P (ix2 ⟨(r.val + 1) % 16384, by omega⟩ ⟨4096 + q.val, by omega⟩)) := by
    by_cases z : r.val % 64 = 63
    · rw [dif_neg (by omega), if_pos z]
    · rw [dif_pos (by omega), if_neg z]
      have e : r.val / 4096 * 4096 + (r.val % 4096 / 64 * 64 + (2 + r.val % 4096 % 64 - 1)) = (r.val + 1) % 16384 := by omega
      simp only [e]
  simp only [a0, a1, dif_pos b1]
  rw [left, right]

end Cert.ConvIdeal.Value

set_option maxHeartbeats 2000000 in
/-- The short-convolution call computes the reference's convolution. -/
theorem Cert.Proof.algebraic_conv : Cert.algebraic_ConvIdeal_ConvRefIdeal := by
  pair_intro
  · run_from Cert.ConvIdeal.Gen.run_main m g
  · hlo_run
    rw [Cert.ConvIdeal.Value.final m c]
    funext i
    idx_vars i
    pointwise [Cert.ConvIdeal.Value.G, Cert.ConvIdeal.Value.u]
    exact Cert.ConvIdeal.Value.taps _ _ i0 i1

end
-- ==== Proof.CombineBits.lean ====
module

public import Idealize.ShloMosaic.PureOps.Ideal

@[expose] public section

noncomputable section

namespace Cert.Halves

open Idealize.ShloMosaic

/-- A single-precision pattern whose low sixteen bits are zero denotes what its high sixteen bits denote as a bf16 pattern. -/
theorem wide (x : BitVec 32) (b : BitVec 16) (h : x.toNat = b.toNat * 65536) :
    Ideal.ofBits .f32 x = Ideal.ofBits .bf16 b := by
  have hb := b.isLt
  have s1 : (x.extractLsb' (8 + 23) 1 == 1#1) = (b.extractLsb' (8 + 7) 1 == 1#1) := by
    congr 1
    apply BitVec.eq_of_toNat_eq
    simp only [BitVec.extractLsb'_toNat, Nat.shiftRight_eq_div_pow]
    omega
  have s2 : (x.extractLsb' 23 8).toNat = (b.extractLsb' 7 8).toNat := by
    simp only [BitVec.extractLsb'_toNat, Nat.shiftRight_eq_div_pow]
    omega
  have s3 : (x.extractLsb' 0 23).toNat = (b.extractLsb' 0 7).toNat * 65536 := by
    simp only [BitVec.extractLsb'_toNat, Nat.shiftRight_eq_div_pow]
    omega
  show Ideal.ieee 8 23 x = Ideal.ieee 8 7 b
  unfold Ideal.ieee
  simp only [s1, s2, s3]
  have z : ((b.extractLsb' 0 7).toNat * 65536 = 0) ↔ ((b.extractLsb' 0 7).toNat = 0) := by omega
  simp only [z]
  generalize (b.extractLsb' 0 7).toNat = fr
  generalize (b.extractLsb' 7 8).toNat = ex
  generalize (b.extractLsb' (8 + 7) 1 == 1#1) = sg
  have p : ∀ e : ℤ, (2 : ℝ) ^ (e - (23 : ℕ)) * 65536 = (2 : ℝ) ^ (e - (7 : ℕ)) := by
    intro e
    rw [show (65536 : ℝ) = (2 : ℝ) ^ (16 : ℤ) by norm_num, ← zpow_add₀ (by norm_num : (2 : ℝ) ≠ 0)]
    congr 1
    push_cast
    ring
  split
  · rfl
  · split
    · congr 1
      rw [← p]
      push_cast
      ring
    · congr 1
      rw [← p]
      push_cast
      ring

/-- A word shifted left by sixteen, read in single precision, is its low half read as bf16. -/
theorem low (w : BitVec 32) : Ideal.ofBits .f32 (w <<< 16) = Ideal.ofBits .bf16 (w.extractLsb' 0 16) := by
  apply wide
  simp only [BitVec.extractLsb'_toNat, BitVec.toNat_shiftLeft, Nat.shiftRight_eq_div_pow, Nat.shiftLeft_eq]
  omega

/-- A word with its low half cleared, read in single precision, is its high half read as bf16. -/
theorem high (w : BitVec 32) : Ideal.ofBits .f32 (w &&& 4294901760#32) = Ideal.ofBits .bf16 (w.extractLsb' 16 16) := by
  apply wide
  have e : w &&& 4294901760#32 = (w >>> 16) <<< 16 := by
    apply BitVec.eq_of_getLsbD_eq
    intro i hi
    have m : ∀ i < 32, (4294901760#32).getLsbD i = decide (16 ≤ i) := by decide
    rw [BitVec.getLsbD_and, m i hi, BitVec.getLsbD_shiftLeft, BitVec.getLsbD_ushiftRight]
    by_cases h : i < 16
    · simp [h, show ¬ 16 ≤ i by omega]
    · simp [h, hi, show 16 ≤ i by omega, show 16 + (i - 16) = i by omega]
  rw [e]
  simp only [BitVec.extractLsb'_toNat, BitVec.toNat_shiftLeft, BitVec.toNat_ushiftRight, Nat.shiftRight_eq_div_pow, Nat.shiftLeft_eq]
  have := w.isLt
  omega

/-- The body's shift of a word by sixteen, read in single precision, is the word's low half read as bf16. -/
theorem lowWord (w : BitVec 32) : Ideal.ofBits .f32 (IntOp.shli .vector w 16#32) = Ideal.ofBits .bf16 (w.extractLsb' 0 16) :=
  (congrArg (Ideal.ofBits .f32) (rfl : IntOp.shli .vector w 16#32 = w <<< 16)).trans (low w)

/-- The body's mask of a word, read in single precision, is the word's high half read as bf16. -/
theorem highWord (w : BitVec 32) : Ideal.ofBits .f32 (IntOp.andi w 4294901760#32) = Ideal.ofBits .bf16 (w.extractLsb' 16 16) :=
  high w

end Cert.Halves

end
-- ==== Proof.CombineRows.lean ====
module

public import proofs.«01_k».proof.Proof.CombineBits
public import proofs.«01_k».proof.Proof.Gen.CombineIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.CombineIdeal.Value
open Cert.CombineIdeal Cert.CombineIdeal.Gen

/-- The low half of a word, read as bf16. -/
def low (w : BitVec 32) : EReal := Ideal.ofBits .bf16 (w.extractLsb' 0 16)

/-- The high half of a word, read as bf16. -/
def high (w : BitVec 32) : EReal := Ideal.ofBits .bf16 (w.extractLsb' 16 16)

/-- The last three terms of the last column group's low halves, as the body computes them. -/
def tailLow (v1 : FVec Ideal S128x8 .f32) (v930 v938 v943 : FVec Ideal S128x128 .f32) (v950 v965 : IVec S128x128 32) : FVec Ideal S128x128 .f32 :=
  addf (addf (addf v930 (mulf v943 v938))
      (mulf (broadcastTo S128x128 (extractStridedSlice S128x1 ![0, 6] v1 slices_S128x8_o0_6_S128x1) broadcasts_S128x1_S128x128)
        (bitcastToFloat .f32 (shli v950 (broadcast S128x128 16#32)))))
    (mulf (broadcastTo S128x128 (extractStridedSlice S128x1 ![0, 7] v1 slices_S128x8_o0_7_S128x1) broadcasts_S128x1_S128x128)
      (bitcastToFloat .f32 (shli v965 (broadcast S128x128 16#32))))

/-- The last three terms of the last column group's high halves, as the body computes them. -/
def tailHigh (v1 : FVec Ideal S128x8 .f32) (v934 v941 : FVec Ideal S128x128 .f32) (v950 v965 : IVec S128x128 32) : FVec Ideal S128x128 .f32 :=
  addf (addf (addf v934 (mulf (broadcastTo S128x128 (extractStridedSlice S128x1 ![0, 5] v1 slices_S128x8_o0_5_S128x1) broadcasts_S128x1_S128x128) v941))
      (mulf (broadcastTo S128x128 (extractStridedSlice S128x1 ![0, 6] v1 slices_S128x8_o0_6_S128x1) broadcasts_S128x1_S128x128)
        (bitcastToFloat .f32 (andi v950 (broadcast S128x128 4294901760#32)))))
    (mulf (broadcastTo S128x128 (extractStridedSlice S128x1 ![0, 7] v1 slices_S128x8_o0_7_S128x1) broadcasts_S128x1_S128x128)
      (bitcastToFloat .f32 (andi v965 (broadcast S128x128 4294901760#32))))

/-- Column group 0, low halves: the shared row plus the eight weighted low halves of the words. -/
theorem low_0 (W : FVec Ideal S1x128x8 .f32) (SH : FVec Ideal S1x128x2048 .f32) (L0 L1 L2 L3 L4 L5 L6 L7 : IVec S128x128 32)
    (r q : Fin 128) :
    k0_pay11 (F := Ideal) (k0_pay2 (F := Ideal) W) (k0_pay7 (F := Ideal) (k0_pay2 (F := Ideal) W) (k0_pay4 (F := Ideal) W SH L0 L1) (k0_pay6 (F := Ideal) L2) L3 L4) (k0_pay9 (F := Ideal) L5) L6 L7 (ix2 r q)
      = SH (ix3 0 r ⟨0 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay4, k0_pay6, k0_pay7, k0_pay9, k0_pay11]
  simp only [Cert.Halves.lowWord, low]

/-- Column group 0, high halves: the shared row plus the eight weighted high halves of the words. -/
theorem high_0 (W : FVec Ideal S1x128x8 .f32) (SH : FVec Ideal S1x128x2048 .f32) (L0 L1 L2 L3 L4 L5 L6 L7 : IVec S128x128 32)
    (r q : Fin 128) :
    k0_pay12 (F := Ideal) (k0_pay2 (F := Ideal) W) (k0_pay8 (F := Ideal) (k0_pay2 (F := Ideal) W) (k0_pay5 (F := Ideal) W SH L0 L1) L2 4294901760#32 L3 L4) (k0_pay10 (F := Ideal) L5) L6 L7 (ix2 r q)
      = SH (ix3 0 r ⟨1024 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay5, k0_pay8, k0_pay10, k0_pay12]
  simp only [Cert.Halves.highWord, high]

/-- Column group 1, low halves: the shared row plus the eight weighted low halves of the words. -/
theorem low_1 (W : FVec Ideal S1x128x8 .f32) (SH : FVec Ideal S1x128x2048 .f32) (L0 L1 L2 L3 L4 L5 L6 L7 : IVec S128x128 32)
    (r q : Fin 128) :
    k0_pay24 (F := Ideal) (k0_pay2 (F := Ideal) W) (k0_pay22 (F := Ideal) (k0_pay2 (F := Ideal) W) (k0_pay20 (F := Ideal) (k0_pay2 (F := Ideal) W) (k0_pay13 (F := Ideal) (k0_pay3 (F := Ideal) SH)) (k0_pay15 (F := Ideal) L0) (k0_pay17 (F := Ideal) (k0_pay2 (F := Ideal) W)) L1 L2 L3) L4 L5 L6) L7 (ix2 r q)
      = SH (ix3 0 r ⟨128 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay13, k0_pay15, k0_pay17, k0_pay20, k0_pay22, k0_pay24]
  simp only [Cert.Halves.lowWord, low]

/-- Column group 1, high halves: the shared row plus the eight weighted high halves of the words. -/
theorem high_1 (W : FVec Ideal S1x128x8 .f32) (SH : FVec Ideal S1x128x2048 .f32) (L0 L1 L2 L3 L4 L5 L6 L7 : IVec S128x128 32)
    (r q : Fin 128) :
    k0_pay25 (F := Ideal) (k0_pay2 (F := Ideal) W) (k0_pay21 (F := Ideal) (k0_pay2 (F := Ideal) W) (k0_pay18 (F := Ideal) (k0_pay2 (F := Ideal) W) (k0_pay14 (F := Ideal) (k0_pay3 (F := Ideal) SH)) (k0_pay16 (F := Ideal) L0) L1 L2) (k0_pay19 (F := Ideal) L3) L4 L5) (k0_pay23 (F := Ideal) (k0_pay2 (F := Ideal) W) L6) L7 (ix2 r q)
      = SH (ix3 0 r ⟨1152 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay14, k0_pay16, k0_pay18, k0_pay19, k0_pay21, k0_pay23, k0_pay25]
  simp only [Cert.Halves.highWord, high]

/-- Column group 2, low halves: the shared row plus the eight weighted low halves of the words. -/
theorem low_2 (W : FVec Ideal S1x128x8 .f32) (SH : FVec Ideal S1x128x2048 .f32) (L0 L1 L2 L3 L4 L5 L6 L7 : IVec S128x128 32)
    (r q : Fin 128) :
    k0_pay30 (F := Ideal) (k0_pay2 (F := Ideal) W) (k0_pay28 (F := Ideal) (k0_pay2 (F := Ideal) W) (k0_pay26 (F := Ideal) (k0_pay2 (F := Ideal) W) (k0_pay3 (F := Ideal) SH) L0 L1) L2 L3 L4) L5 L6 L7 (ix2 r q)
      = SH (ix3 0 r ⟨256 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay26, k0_pay28, k0_pay30]
  simp only [Cert.Halves.lowWord, low]

/-- Column group 2, high halves: the shared row plus the eight weighted high halves of the words. -/
theorem high_2 (W : FVec Ideal S1x128x8 .f32) (SH : FVec Ideal S1x128x2048 .f32) (L0 L1 L2 L3 L4 L5 L6 L7 : IVec S128x128 32)
    (r q : Fin 128) :
    k0_pay31 (F := Ideal) (k0_pay2 (F := Ideal) W) (k0_pay29 (F := Ideal) (k0_pay2 (F := Ideal) W) (k0_pay27 (F := Ideal) (k0_pay2 (F := Ideal) W) (k0_pay3 (F := Ideal) SH) L0 L1) L2 L3 L4) L5 L6 L7 (ix2 r q)
      = SH (ix3 0 r ⟨1280 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay27, k0_pay29, k0_pay31]
  simp only [Cert.Halves.highWord, high]

/-- Column group 3, low halves: the shared row plus the eight weighted low halves of the words. -/
theorem low_3 (W : FVec Ideal S1x128x8 .f32) (SH : FVec Ideal S1x128x2048 .f32) (L0 L1 L2 L3 L4 L5 L6 L7 : IVec S128x128 32)
    (r q : Fin 128) :
    k0_pay41 (F := Ideal) (k0_pay2 (F := Ideal) W) (k0_pay37 (F := Ideal) (k0_pay2 (F := Ideal) W) (k0_pay34 (F := Ideal) (k0_pay2 (F := Ideal) W) (k0_pay32 (F := Ideal) (k0_pay3 (F := Ideal) SH)) L0 16#32 L1 L2) (k0_pay36 (F := Ideal) L3) L4 L5) (k0_pay39 (F := Ideal) L6) L7 (ix2 r q)
      = SH (ix3 0 r ⟨384 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay32, k0_pay34, k0_pay36, k0_pay37, k0_pay39, k0_pay41]
  simp only [Cert.Halves.lowWord, low]

/-- Column group 3, high halves: the shared row plus the eight weighted high halves of the words. -/
theorem high_3 (W : FVec Ideal S1x128x8 .f32) (SH : FVec Ideal S1x128x2048 .f32) (L0 L1 L2 L3 L4 L5 L6 L7 : IVec S128x128 32)
    (r q : Fin 128) :
    k0_pay42 (F := Ideal) (k0_pay2 (F := Ideal) W) (k0_pay38 (F := Ideal) (k0_pay2 (F := Ideal) W) (k0_pay35 (F := Ideal) (k0_pay2 (F := Ideal) W) (k0_pay33 (F := Ideal) (k0_pay3 (F := Ideal) SH)) L0 L1 L2) L3 L4 L5) (k0_pay40 (F := Ideal) L6) L7 (ix2 r q)
      = SH (ix3 0 r ⟨1408 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay33, k0_pay35, k0_pay38, k0_pay40, k0_pay42]
  simp only [Cert.Halves.highWord, high]

/-- Column group 4, low halves: the shared row plus the eight weighted low halves of the words. -/
theorem low_4 (W : FVec Ideal S1x128x8 .f32) (SH : FVec Ideal S1x128x2048 .f32) (L0 L1 L2 L3 L4 L5 L6 L7 : IVec S128x128 32)
    (r q : Fin 128) :
    k0_pay53 (F := Ideal) (k0_pay2 (F := Ideal) W) (k0_pay47 (F := Ideal) (k0_pay2 (F := Ideal) W) (k0_pay43 (F := Ideal) (k0_pay2 (F := Ideal) W) (k0_pay3 (F := Ideal) SH) L0) (k0_pay45 (F := Ideal) L1) L2 L3) (k0_pay50 (F := Ideal) (k0_pay2 (F := Ideal) W) L4) L5 L6 L7 (ix2 r q)
      = SH (ix3 0 r ⟨512 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay43, k0_pay45, k0_pay47, k0_pay50, k0_pay53]
  simp only [Cert.Halves.lowWord, low]

/-- Column group 4, high halves: the shared row plus the eight weighted high halves of the words. -/
theorem high_4 (W : FVec Ideal S1x128x8 .f32) (SH : FVec Ideal S1x128x2048 .f32) (L0 L1 L2 L3 L4 L5 L6 L7 : IVec S128x128 32)
    (r q : Fin 128) :
    k0_pay55 (F := Ideal) (k0_pay51 (F := Ideal) (k0_pay2 (F := Ideal) W) (k0_pay48 (F := Ideal) (k0_pay2 (F := Ideal) W) (k0_pay44 (F := Ideal) (k0_pay2 (F := Ideal) W) (k0_pay3 (F := Ideal) SH) L0) (k0_pay46 (F := Ideal) L1) L2 L3) (k0_pay49 (F := Ideal) L4) L5 L6) (k0_pay52 (F := Ideal) L7) (k0_pay54 (F := Ideal) (k0_pay2 (F := Ideal) W)) (ix2 r q)
      = SH (ix3 0 r ⟨1536 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay44, k0_pay46, k0_pay48, k0_pay49, k0_pay51, k0_pay52, k0_pay54, k0_pay55]
  simp only [Cert.Halves.highWord, high]

/-- Column group 5, low halves: the shared row plus the eight weighted low halves of the words. -/
theorem low_5 (W : FVec Ideal S1x128x8 .f32) (SH : FVec Ideal S1x128x2048 .f32) (L0 L1 L2 L3 L4 L5 L6 L7 : IVec S128x128 32)
    (r q : Fin 128) :
    k0_pay61 (F := Ideal) (k0_pay2 (F := Ideal) W) (k0_pay59 (F := Ideal) (k0_pay2 (F := Ideal) W) (k0_pay57 (F := Ideal) (k0_pay2 (F := Ideal) W) (k0_pay3 (F := Ideal) SH) L0 L1 L2) L3 L4 L5) L6 L7 (ix2 r q)
      = SH (ix3 0 r ⟨640 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay57, k0_pay59, k0_pay61]
  simp only [Cert.Halves.lowWord, low]

/-- Column group 5, high halves: the shared row plus the eight weighted high halves of the words. -/
theorem high_5 (W : FVec Ideal S1x128x8 .f32) (SH : FVec Ideal S1x128x2048 .f32) (L0 L1 L2 L3 L4 L5 L6 L7 : IVec S128x128 32)
    (r q : Fin 128) :
    k0_pay62 (F := Ideal) (k0_pay2 (F := Ideal) W) (k0_pay60 (F := Ideal) (k0_pay2 (F := Ideal) W) (k0_pay56 (F := Ideal) (k0_pay2 (F := Ideal) W) (k0_pay3 (F := Ideal) SH) L0 L1) (k0_pay58 (F := Ideal) (k0_pay2 (F := Ideal) W) L2) L3 L4 L5) L6 L7 (ix2 r q)
      = SH (ix3 0 r ⟨1664 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay56, k0_pay58, k0_pay60, k0_pay62]
  simp only [Cert.Halves.highWord, high]

/-- Column group 6, low halves: the shared row plus the eight weighted low halves of the words. -/
theorem low_6 (W : FVec Ideal S1x128x8 .f32) (SH : FVec Ideal S1x128x2048 .f32) (L0 L1 L2 L3 L4 L5 L6 L7 : IVec S128x128 32)
    (r q : Fin 128) :
    k0_pay72 (F := Ideal) (k0_pay2 (F := Ideal) W) (k0_pay68 (F := Ideal) (k0_pay2 (F := Ideal) W) (k0_pay65 (F := Ideal) (k0_pay2 (F := Ideal) W) (k0_pay63 (F := Ideal) (k0_pay2 (F := Ideal) W) (k0_pay3 (F := Ideal) SH) L0) L1 L2 L3) (k0_pay67 (F := Ideal) L4) L5 L6) (k0_pay70 (F := Ideal) L7) (ix2 r q)
      = SH (ix3 0 r ⟨768 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [k0_pay2, k0_pay3, k0_pay63, k0_pay65, k0_pay67, k0_pay68, k0_pay70, k0_pay72]
  simp only [Cert.Halves.lowWord, low]

/-- Column group 6, high halves: the shared row plus the eight weighted high halves of the words. -/
theorem high_6 (W : FVec Ideal S1x128x8 .f32) (SH : FVec Ideal S1x128x2048 .f32) (L0 L1 L2 L3 L4 L5 L6 L7 : IVec S128x128 32)
    (r q : Fin 128) :
    k0_pay73 (F := Ideal) (k0_pay2 (F := Ideal) W) (k0_pay69 (F := Ideal) (k0_pay2 (F := Ideal) W) (k0_pay66 (F := Ideal) (k0_pay2 (F := Ideal) W) (k0_pay64 (F := Ideal) (k0_pay2 (F := Ideal) W) (k0_pay3 (F := Ideal) SH) L0) L1 L2 L3) L4 L5 L6) L7 k0_pay71 (ix2 r q)
      = SH (ix3 0 r ⟨1792 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [k0_pay2, k0_pay3, k0_pay64, k0_pay66, k0_pay69, k0_pay71, k0_pay73]
  simp only [Cert.Halves.highWord, high]

/-- Column group 7, low halves: the shared row plus the eight weighted low halves of the words. -/
theorem low_7 (W : FVec Ideal S1x128x8 .f32) (SH : FVec Ideal S1x128x2048 .f32) (L0 L1 L2 L3 L4 L5 L6 L7 : IVec S128x128 32)
    (r q : Fin 128) :
    tailLow (k0_pay2 W) (k0_pay78 (F := Ideal) (k0_pay2 (F := Ideal) W) (k0_pay74 (F := Ideal) (k0_pay2 (F := Ideal) W) (k0_pay3 (F := Ideal) SH) L0 L1) (k0_pay76 (F := Ideal) L2) L3 L4) (k0_pay80 (F := Ideal) L5) (k0_pay82 (F := Ideal) (k0_pay2 (F := Ideal) W)) L6 L7 (ix2 r q)
      = SH (ix3 0 r ⟨896 + q.val, by omega⟩) + W (ix3 0 r 0) * low (L0 (ix2 r q)) + W (ix3 0 r 1) * low (L1 (ix2 r q))
        + W (ix3 0 r 2) * low (L2 (ix2 r q)) + W (ix3 0 r 3) * low (L3 (ix2 r q)) + W (ix3 0 r 4) * low (L4 (ix2 r q))
        + W (ix3 0 r 5) * low (L5 (ix2 r q)) + W (ix3 0 r 6) * low (L6 (ix2 r q)) + W (ix3 0 r 7) * low (L7 (ix2 r q)) := by
  pointwise [tailLow, k0_pay2, k0_pay3, k0_pay74, k0_pay76, k0_pay78, k0_pay80, k0_pay82]
  simp only [Cert.Halves.lowWord, low]

/-- Column group 7, high halves: the shared row plus the eight weighted high halves of the words. -/
theorem high_7 (W : FVec Ideal S1x128x8 .f32) (SH : FVec Ideal S1x128x2048 .f32) (L0 L1 L2 L3 L4 L5 L6 L7 : IVec S128x128 32)
    (r q : Fin 128) :
    tailHigh (k0_pay2 W) (k0_pay79 (F := Ideal) (k0_pay2 (F := Ideal) W) (k0_pay75 (F := Ideal) (k0_pay2 (F := Ideal) W) (k0_pay3 (F := Ideal) SH) L0 L1) (k0_pay77 (F := Ideal) L2) L3 L4) (k0_pay81 (F := Ideal) L5) L6 L7 (ix2 r q)
      = SH (ix3 0 r ⟨1920 + q.val, by omega⟩) + W (ix3 0 r 0) * high (L0 (ix2 r q)) + W (ix3 0 r 1) * high (L1 (ix2 r q))
        + W (ix3 0 r 2) * high (L2 (ix2 r q)) + W (ix3 0 r 3) * high (L3 (ix2 r q)) + W (ix3 0 r 4) * high (L4 (ix2 r q))
        + W (ix3 0 r 5) * high (L5 (ix2 r q)) + W (ix3 0 r 6) * high (L6 (ix2 r q)) + W (ix3 0 r 7) * high (L7 (ix2 r q)) := by
  pointwise [tailHigh, k0_pay2, k0_pay3, k0_pay75, k0_pay77, k0_pay79, k0_pay81]
  simp only [Cert.Halves.highWord, high]

/-- A concatenation of sixteen pieces of 128 columns, read in the columns of its `n`-th piece. -/
theorem piece (x : Fin 16 → FVec Ideal S128x128 .f32) (h) (n : Fin 16) (r q : Fin 128) (hq : 128 * n.val + q.val < 2048) :
    concatenate S128x2048 1 [⟨S128x128, x 0⟩, ⟨S128x128, x 1⟩, ⟨S128x128, x 2⟩, ⟨S128x128, x 3⟩, ⟨S128x128, x 4⟩, ⟨S128x128, x 5⟩,
      ⟨S128x128, x 6⟩, ⟨S128x128, x 7⟩, ⟨S128x128, x 8⟩, ⟨S128x128, x 9⟩, ⟨S128x128, x 10⟩, ⟨S128x128, x 11⟩, ⟨S128x128, x 12⟩,
      ⟨S128x128, x 13⟩, ⟨S128x128, x 14⟩, ⟨S128x128, x 15⟩] h (ix2 r ⟨128 * n.val + q.val, hq⟩) = x n (ix2 r q) := by
  refine concatenate_ofFn_apply (s₁ := S128x128) (t := S128x2048) (1 : Fin 2) (N := 16) x h rfl 128 rfl _ n ?_ (ix2 r q) ?_ ?_
  · show (128 * n.val + q.val) / 128 = n.val
    omega
  · show q.val = (128 * n.val + q.val) % 128
    omega
  · intro b hb
    match b with
    | ⟨0, _⟩ => rfl
    | ⟨1, _⟩ => exact absurd rfl hb

/-- The sixteen column pieces of a row block, as the body computes them. -/
def pieces (W : FVec Ideal S1x128x8 .f32) (SH : FVec Ideal S1x128x2048 .f32) (L : Fin 8 → Fin 8 → IVec S128x128 32) : Fin 16 → FVec Ideal S128x128 .f32 :=
  ![
      k0_pay11 (F := Ideal) (k0_pay2 (F := Ideal) W) (k0_pay7 (F := Ideal) (k0_pay2 (F := Ideal) W) (k0_pay4 (F := Ideal) W SH (L 0 0) (L 0 1)) (k0_pay6 (F := Ideal) (L 0 2)) (L 0 3) (L 0 4)) (k0_pay9 (F := Ideal) (L 0 5)) (L 0 6) (L 0 7),
      k0_pay24 (F := Ideal) (k0_pay2 (F := Ideal) W) (k0_pay22 (F := Ideal) (k0_pay2 (F := Ideal) W) (k0_pay20 (F := Ideal) (k0_pay2 (F := Ideal) W) (k0_pay13 (F := Ideal) (k0_pay3 (F := Ideal) SH)) (k0_pay15 (F := Ideal) (L 1 0)) (k0_pay17 (F := Ideal) (k0_pay2 (F := Ideal) W)) (L 1 1) (L 1 2) (L 1 3)) (L 1 4) (L 1 5) (L 1 6)) (L 1 7),
      k0_pay30 (F := Ideal) (k0_pay2 (F := Ideal) W) (k0_pay28 (F := Ideal) (k0_pay2 (F := Ideal) W) (k0_pay26 (F := Ideal) (k0_pay2 (F := Ideal) W) (k0_pay3 (F := Ideal) SH) (L 2 0) (L 2 1)) (L 2 2) (L 2 3) (L 2 4)) (L 2 5) (L 2 6) (L 2 7),
      k0_pay41 (F := Ideal) (k0_pay2 (F := Ideal) W) (k0_pay37 (F := Ideal) (k0_pay2 (F := Ideal) W) (k0_pay34 (F := Ideal) (k0_pay2 (F := Ideal) W) (k0_pay32 (F := Ideal) (k0_pay3 (F := Ideal) SH)) (L 3 0) 16#32 (L 3 1) (L 3 2)) (k0_pay36 (F := Ideal) (L 3 3)) (L 3 4) (L 3 5)) (k0_pay39 (F := Ideal) (L 3 6)) (L 3 7),
      k0_pay53 (F := Ideal) (k0_pay2 (F := Ideal) W) (k0_pay47 (F := Ideal) (k0_pay2 (F := Ideal) W) (k0_pay43 (F := Ideal) (k0_pay2 (F := Ideal) W) (k0_pay3 (F := Ideal) SH) (L 4 0)) (k0_pay45 (F := Ideal) (L 4 1)) (L 4 2) (L 4 3)) (k0_pay50 (F := Ideal) (k0_pay2 (F := Ideal) W) (L 4 4)) (L 4 5) (L 4 6) (L 4 7),
      k0_pay61 (F := Ideal) (k0_pay2 (F := Ideal) W) (k0_pay59 (F := Ideal) (k0_pay2 (F := Ideal) W) (k0_pay57 (F := Ideal) (k0_pay2 (F := Ideal) W) (k0_pay3 (F := Ideal) SH) (L 5 0) (L 5 1) (L 5 2)) (L 5 3) (L 5 4) (L 5 5)) (L 5 6) (L 5 7),
      k0_pay72 (F := Ideal) (k0_pay2 (F := Ideal) W) (k0_pay68 (F := Ideal) (k0_pay2 (F := Ideal) W) (k0_pay65 (F := Ideal) (k0_pay2 (F := Ideal) W) (k0_pay63 (F := Ideal) (k0_pay2 (F := Ideal) W) (k0_pay3 (F := Ideal) SH) (L 6 0)) (L 6 1) (L 6 2) (L 6 3)) (k0_pay67 (F := Ideal) (L 6 4)) (L 6 5) (L 6 6)) (k0_pay70 (F := Ideal) (L 6 7)),
      tailLow (k0_pay2 W) (k0_pay78 (F := Ideal) (k0_pay2 (F := Ideal) W) (k0_pay74 (F := Ideal) (k0_pay2 (F := Ideal) W) (k0_pay3 (F := Ideal) SH) (L 7 0) (L 7 1)) (k0_pay76 (F := Ideal) (L 7 2)) (L 7 3) (L 7 4)) (k0_pay80 (F := Ideal) (L 7 5)) (k0_pay82 (F := Ideal) (k0_pay2 (F := Ideal) W)) (L 7 6) (L 7 7),
      k0_pay12 (F := Ideal) (k0_pay2 (F := Ideal) W) (k0_pay8 (F := Ideal) (k0_pay2 (F := Ideal) W) (k0_pay5 (F := Ideal) W SH (L 0 0) (L 0 1)) (L 0 2) 4294901760#32 (L 0 3) (L 0 4)) (k0_pay10 (F := Ideal) (L 0 5)) (L 0 6) (L 0 7),
      k0_pay25 (F := Ideal) (k0_pay2 (F := Ideal) W) (k0_pay21 (F := Ideal) (k0_pay2 (F := Ideal) W) (k0_pay18 (F := Ideal) (k0_pay2 (F := Ideal) W) (k0_pay14 (F := Ideal) (k0_pay3 (F := Ideal) SH)) (k0_pay16 (F := Ideal) (L 1 0)) (L 1 1) (L 1 2)) (k0_pay19 (F := Ideal) (L 1 3)) (L 1 4) (L 1 5)) (k0_pay23 (F := Ideal) (k0_pay2 (F := Ideal) W) (L 1 6)) (L 1 7),
      k0_pay31 (F := Ideal) (k0_pay2 (F := Ideal) W) (k0_pay29 (F := Ideal) (k0_pay2 (F := Ideal) W) (k0_pay27 (F := Ideal) (k0_pay2 (F := Ideal) W) (k0_pay3 (F := Ideal) SH) (L 2 0) (L 2 1)) (L 2 2) (L 2 3) (L 2 4)) (L 2 5) (L 2 6) (L 2 7),
      k0_pay42 (F := Ideal) (k0_pay2 (F := Ideal) W) (k0_pay38 (F := Ideal) (k0_pay2 (F := Ideal) W) (k0_pay35 (F := Ideal) (k0_pay2 (F := Ideal) W) (k0_pay33 (F := Ideal) (k0_pay3 (F := Ideal) SH)) (L 3 0) (L 3 1) (L 3 2)) (L 3 3) (L 3 4) (L 3 5)) (k0_pay40 (F := Ideal) (L 3 6)) (L 3 7),
      k0_pay55 (F := Ideal) (k0_pay51 (F := Ideal) (k0_pay2 (F := Ideal) W) (k0_pay48 (F := Ideal) (k0_pay2 (F := Ideal) W) (k0_pay44 (F := Ideal) (k0_pay2 (F := Ideal) W) (k0_pay3 (F := Ideal) SH) (L 4 0)) (k0_pay46 (F := Ideal) (L 4 1)) (L 4 2) (L 4 3)) (k0_pay49 (F := Ideal) (L 4 4)) (L 4 5) (L 4 6)) (k0_pay52 (F := Ideal) (L 4 7)) (k0_pay54 (F := Ideal) (k0_pay2 (F := Ideal) W)),
      k0_pay62 (F := Ideal) (k0_pay2 (F := Ideal) W) (k0_pay60 (F := Ideal) (k0_pay2 (F := Ideal) W) (k0_pay56 (F := Ideal) (k0_pay2 (F := Ideal) W) (k0_pay3 (F := Ideal) SH) (L 5 0) (L 5 1)) (k0_pay58 (F := Ideal) (k0_pay2 (F := Ideal) W) (L 5 2)) (L 5 3) (L 5 4) (L 5 5)) (L 5 6) (L 5 7),
      k0_pay73 (F := Ideal) (k0_pay2 (F := Ideal) W) (k0_pay69 (F := Ideal) (k0_pay2 (F := Ideal) W) (k0_pay66 (F := Ideal) (k0_pay2 (F := Ideal) W) (k0_pay64 (F := Ideal) (k0_pay2 (F := Ideal) W) (k0_pay3 (F := Ideal) SH) (L 6 0)) (L 6 1) (L 6 2) (L 6 3)) (L 6 4) (L 6 5) (L 6 6)) (L 6 7) k0_pay71,
      tailHigh (k0_pay2 W) (k0_pay79 (F := Ideal) (k0_pay2 (F := Ideal) W) (k0_pay75 (F := Ideal) (k0_pay2 (F := Ideal) W) (k0_pay3 (F := Ideal) SH) (L 7 0) (L 7 1)) (k0_pay77 (F := Ideal) (L 7 2)) (L 7 3) (L 7 4)) (k0_pay81 (F := Ideal) (L 7 5)) (L 7 6) (L 7 7)]

/-- The mixed row block before the norm, as the body computes it. -/
def mixed (X : FVec Ideal S1x128x2048 .f32) (W : FVec Ideal S1x128x8 .f32) (SH : FVec Ideal S1x128x2048 .f32) (M : FVec Ideal S1x6x2048 .f32)
    (L : Fin 8 → Fin 8 → IVec S128x128 32) : FVec Ideal S128x2048 .f32 :=
  k0_pay83 (F := Ideal) (k0_pay2 (F := Ideal) W) (k0_pay11 (F := Ideal) (k0_pay2 (F := Ideal) W) (k0_pay7 (F := Ideal) (k0_pay2 (F := Ideal) W) (k0_pay4 (F := Ideal) W SH (L 0 0) (L 0 1)) (k0_pay6 (F := Ideal) (L 0 2)) (L 0 3) (L 0 4)) (k0_pay9 (F := Ideal) (L 0 5)) (L 0 6) (L 0 7)) (k0_pay12 (F := Ideal) (k0_pay2 (F := Ideal) W) (k0_pay8 (F := Ideal) (k0_pay2 (F := Ideal) W) (k0_pay5 (F := Ideal) W SH (L 0 0) (L 0 1)) (L 0 2) 4294901760#32 (L 0 3) (L 0 4)) (k0_pay10 (F := Ideal) (L 0 5)) (L 0 6) (L 0 7)) (k0_pay24 (F := Ideal) (k0_pay2 (F := Ideal) W) (k0_pay22 (F := Ideal) (k0_pay2 (F := Ideal) W) (k0_pay20 (F := Ideal) (k0_pay2 (F := Ideal) W) (k0_pay13 (F := Ideal) (k0_pay3 (F := Ideal) SH)) (k0_pay15 (F := Ideal) (L 1 0)) (k0_pay17 (F := Ideal) (k0_pay2 (F := Ideal) W)) (L 1 1) (L 1 2) (L 1 3)) (L 1 4) (L 1 5) (L 1 6)) (L 1 7)) (k0_pay25 (F := Ideal) (k0_pay2 (F := Ideal) W) (k0_pay21 (F := Ideal) (k0_pay2 (F := Ideal) W) (k0_pay18 (F := Ideal) (k0_pay2 (F := Ideal) W) (k0_pay14 (F := Ideal) (k0_pay3 (F := Ideal) SH)) (k0_pay16 (F := Ideal) (L 1 0)) (L 1 1) (L 1 2)) (k0_pay19 (F := Ideal) (L 1 3)) (L 1 4) (L 1 5)) (k0_pay23 (F := Ideal) (k0_pay2 (F := Ideal) W) (L 1 6)) (L 1 7)) (k0_pay30 (F := Ideal) (k0_pay2 (F := Ideal) W) (k0_pay28 (F := Ideal) (k0_pay2 (F := Ideal) W) (k0_pay26 (F := Ideal) (k0_pay2 (F := Ideal) W) (k0_pay3 (F := Ideal) SH) (L 2 0) (L 2 1)) (L 2 2) (L 2 3) (L 2 4)) (L 2 5) (L 2 6) (L 2 7)) (k0_pay31 (F := Ideal) (k0_pay2 (F := Ideal) W) (k0_pay29 (F := Ideal) (k0_pay2 (F := Ideal) W) (k0_pay27 (F := Ideal) (k0_pay2 (F := Ideal) W) (k0_pay3 (F := Ideal) SH) (L 2 0) (L 2 1)) (L 2 2) (L 2 3) (L 2 4)) (L 2 5) (L 2 6) (L 2 7)) (k0_pay41 (F := Ideal) (k0_pay2 (F := Ideal) W) (k0_pay37 (F := Ideal) (k0_pay2 (F := Ideal) W) (k0_pay34 (F := Ideal) (k0_pay2 (F := Ideal) W) (k0_pay32 (F := Ideal) (k0_pay3 (F := Ideal) SH)) (L 3 0) 16#32 (L 3 1) (L 3 2)) (k0_pay36 (F := Ideal) (L 3 3)) (L 3 4) (L 3 5)) (k0_pay39 (F := Ideal) (L 3 6)) (L 3 7)) (k0_pay42 (F := Ideal) (k0_pay2 (F := Ideal) W) (k0_pay38 (F := Ideal) (k0_pay2 (F := Ideal) W) (k0_pay35 (F := Ideal) (k0_pay2 (F := Ideal) W) (k0_pay33 (F := Ideal) (k0_pay3 (F := Ideal) SH)) (L 3 0) (L 3 1) (L 3 2)) (L 3 3) (L 3 4) (L 3 5)) (k0_pay40 (F := Ideal) (L 3 6)) (L 3 7)) (k0_pay53 (F := Ideal) (k0_pay2 (F := Ideal) W) (k0_pay47 (F := Ideal) (k0_pay2 (F := Ideal) W) (k0_pay43 (F := Ideal) (k0_pay2 (F := Ideal) W) (k0_pay3 (F := Ideal) SH) (L 4 0)) (k0_pay45 (F := Ideal) (L 4 1)) (L 4 2) (L 4 3)) (k0_pay50 (F := Ideal) (k0_pay2 (F := Ideal) W) (L 4 4)) (L 4 5) (L 4 6) (L 4 7)) (k0_pay55 (F := Ideal) (k0_pay51 (F := Ideal) (k0_pay2 (F := Ideal) W) (k0_pay48 (F := Ideal) (k0_pay2 (F := Ideal) W) (k0_pay44 (F := Ideal) (k0_pay2 (F := Ideal) W) (k0_pay3 (F := Ideal) SH) (L 4 0)) (k0_pay46 (F := Ideal) (L 4 1)) (L 4 2) (L 4 3)) (k0_pay49 (F := Ideal) (L 4 4)) (L 4 5) (L 4 6)) (k0_pay52 (F := Ideal) (L 4 7)) (k0_pay54 (F := Ideal) (k0_pay2 (F := Ideal) W))) (k0_pay61 (F := Ideal) (k0_pay2 (F := Ideal) W) (k0_pay59 (F := Ideal) (k0_pay2 (F := Ideal) W) (k0_pay57 (F := Ideal) (k0_pay2 (F := Ideal) W) (k0_pay3 (F := Ideal) SH) (L 5 0) (L 5 1) (L 5 2)) (L 5 3) (L 5 4) (L 5 5)) (L 5 6) (L 5 7)) (k0_pay62 (F := Ideal) (k0_pay2 (F := Ideal) W) (k0_pay60 (F := Ideal) (k0_pay2 (F := Ideal) W) (k0_pay56 (F := Ideal) (k0_pay2 (F := Ideal) W) (k0_pay3 (F := Ideal) SH) (L 5 0) (L 5 1)) (k0_pay58 (F := Ideal) (k0_pay2 (F := Ideal) W) (L 5 2)) (L 5 3) (L 5 4) (L 5 5)) (L 5 6) (L 5 7)) (k0_pay72 (F := Ideal) (k0_pay2 (F := Ideal) W) (k0_pay68 (F := Ideal) (k0_pay2 (F := Ideal) W) (k0_pay65 (F := Ideal) (k0_pay2 (F := Ideal) W) (k0_pay63 (F := Ideal) (k0_pay2 (F := Ideal) W) (k0_pay3 (F := Ideal) SH) (L 6 0)) (L 6 1) (L 6 2) (L 6 3)) (k0_pay67 (F := Ideal) (L 6 4)) (L 6 5) (L 6 6)) (k0_pay70 (F := Ideal) (L 6 7))) (k0_pay73 (F := Ideal) (k0_pay2 (F := Ideal) W) (k0_pay69 (F := Ideal) (k0_pay2 (F := Ideal) W) (k0_pay66 (F := Ideal) (k0_pay2 (F := Ideal) W) (k0_pay64 (F := Ideal) (k0_pay2 (F := Ideal) W) (k0_pay3 (F := Ideal) SH) (L 6 0)) (L 6 1) (L 6 2) (L 6 3)) (L 6 4) (L 6 5) (L 6 6)) (L 6 7) k0_pay71) (k0_pay78 (F := Ideal) (k0_pay2 (F := Ideal) W) (k0_pay74 (F := Ideal) (k0_pay2 (F := Ideal) W) (k0_pay3 (F := Ideal) SH) (L 7 0) (L 7 1)) (k0_pay76 (F := Ideal) (L 7 2)) (L 7 3) (L 7 4)) (k0_pay79 (F := Ideal) (k0_pay2 (F := Ideal) W) (k0_pay75 (F := Ideal) (k0_pay2 (F := Ideal) W) (k0_pay3 (F := Ideal) SH) (L 7 0) (L 7 1)) (k0_pay77 (F := Ideal) (L 7 2)) (L 7 3) (L 7 4)) (k0_pay80 (F := Ideal) (L 7 5)) (k0_pay81 (F := Ideal) (L 7 5)) (k0_pay82 (F := Ideal) (k0_pay2 (F := Ideal) W)) (L 7 6) (L 7 7) M X

/-- Column `128 n + q` of row `r` of the weighted sum of the packed rows, over the words of the block. -/
def col (W : FVec Ideal S1x128x8 .f32) (SH : FVec Ideal S1x128x2048 .f32) (L : Fin 8 → Fin 8 → IVec S128x128 32) (n : Fin 16) (r q : Fin 128) : EReal :=
  SH (ix3 0 r ⟨128 * n.val + q.val, by omega⟩)
    + W (ix3 0 r 0) * Ideal.ofBits .bf16 ((L ⟨n.val % 8, by omega⟩ 0 (ix2 r q)).extractLsb' (n.val / 8 * 16) 16)
    + W (ix3 0 r 1) * Ideal.ofBits .bf16 ((L ⟨n.val % 8, by omega⟩ 1 (ix2 r q)).extractLsb' (n.val / 8 * 16) 16)
    + W (ix3 0 r 2) * Ideal.ofBits .bf16 ((L ⟨n.val % 8, by omega⟩ 2 (ix2 r q)).extractLsb' (n.val / 8 * 16) 16)
    + W (ix3 0 r 3) * Ideal.ofBits .bf16 ((L ⟨n.val % 8, by omega⟩ 3 (ix2 r q)).extractLsb' (n.val / 8 * 16) 16)
    + W (ix3 0 r 4) * Ideal.ofBits .bf16 ((L ⟨n.val % 8, by omega⟩ 4 (ix2 r q)).extractLsb' (n.val / 8 * 16) 16)
    + W (ix3 0 r 5) * Ideal.ofBits .bf16 ((L ⟨n.val % 8, by omega⟩ 5 (ix2 r q)).extractLsb' (n.val / 8 * 16) 16)
    + W (ix3 0 r 6) * Ideal.ofBits .bf16 ((L ⟨n.val % 8, by omega⟩ 6 (ix2 r q)).extractLsb' (n.val / 8 * 16) 16)
    + W (ix3 0 r 7) * Ideal.ofBits .bf16 ((L ⟨n.val % 8, by omega⟩ 7 (ix2 r q)).extractLsb' (n.val / 8 * 16) 16)

/-- Each piece holds the weighted sum of its columns. -/
theorem pieces_at (W : FVec Ideal S1x128x8 .f32) (SH : FVec Ideal S1x128x2048 .f32) (L : Fin 8 → Fin 8 → IVec S128x128 32) (n : Fin 16) (r q : Fin 128) :
    pieces W SH L n (ix2 r q) = col W SH L n r q := by
  fin_cases n
  · exact low_0 W SH (L 0 0) (L 0 1) (L 0 2) (L 0 3) (L 0 4) (L 0 5) (L 0 6) (L 0 7) r q
  · exact low_1 W SH (L 1 0) (L 1 1) (L 1 2) (L 1 3) (L 1 4) (L 1 5) (L 1 6) (L 1 7) r q
  · exact low_2 W SH (L 2 0) (L 2 1) (L 2 2) (L 2 3) (L 2 4) (L 2 5) (L 2 6) (L 2 7) r q
  · exact low_3 W SH (L 3 0) (L 3 1) (L 3 2) (L 3 3) (L 3 4) (L 3 5) (L 3 6) (L 3 7) r q
  · exact low_4 W SH (L 4 0) (L 4 1) (L 4 2) (L 4 3) (L 4 4) (L 4 5) (L 4 6) (L 4 7) r q
  · exact low_5 W SH (L 5 0) (L 5 1) (L 5 2) (L 5 3) (L 5 4) (L 5 5) (L 5 6) (L 5 7) r q
  · exact low_6 W SH (L 6 0) (L 6 1) (L 6 2) (L 6 3) (L 6 4) (L 6 5) (L 6 6) (L 6 7) r q
  · exact low_7 W SH (L 7 0) (L 7 1) (L 7 2) (L 7 3) (L 7 4) (L 7 5) (L 7 6) (L 7 7) r q
  · exact high_0 W SH (L 0 0) (L 0 1) (L 0 2) (L 0 3) (L 0 4) (L 0 5) (L 0 6) (L 0 7) r q
  · exact high_1 W SH (L 1 0) (L 1 1) (L 1 2) (L 1 3) (L 1 4) (L 1 5) (L 1 6) (L 1 7) r q
  · exact high_2 W SH (L 2 0) (L 2 1) (L 2 2) (L 2 3) (L 2 4) (L 2 5) (L 2 6) (L 2 7) r q
  · exact high_3 W SH (L 3 0) (L 3 1) (L 3 2) (L 3 3) (L 3 4) (L 3 5) (L 3 6) (L 3 7) r q
  · exact high_4 W SH (L 4 0) (L 4 1) (L 4 2) (L 4 3) (L 4 4) (L 4 5) (L 4 6) (L 4 7) r q
  · exact high_5 W SH (L 5 0) (L 5 1) (L 5 2) (L 5 3) (L 5 4) (L 5 5) (L 5 6) (L 5 7) r q
  · exact high_6 W SH (L 6 0) (L 6 1) (L 6 2) (L 6 3) (L 6 4) (L 6 5) (L 6 6) (L 6 7) r q
  · exact high_7 W SH (L 7 0) (L 7 1) (L 7 2) (L 7 3) (L 7 4) (L 7 5) (L 7 6) (L 7 7) r q

/-- The residual row plus the modulated columns, at row `r`, column `q`. -/
theorem gated (C : FVec Ideal S128x2048 .f32) (X : FVec Ideal S1x128x2048 .f32) (M : FVec Ideal S1x6x2048 .f32) (r : Fin 128) (q : Fin 2048) :
    addf (shapeCast S128x2048 X shapeCasts_S1x128x2048_S128x2048) (mulf (broadcastTo S128x2048 (extractStridedSlice S1x2048 ![5, 0]
      (shapeCast S6x2048 M shapeCasts_S1x6x2048_S6x2048) slices_S6x2048_o5_0_S1x2048) broadcasts_S1x2048_S128x2048) C) (ix2 r q)
      = X (ix3 0 r q) + M (ix3 0 5 q) * C (ix2 r q) := by
  pointwise []

/-- The mixed row block is the residual plus the modulated concatenation of the sixteen pieces. -/
theorem mixed_eq (X : FVec Ideal S1x128x2048 .f32) (W : FVec Ideal S1x128x8 .f32) (SH : FVec Ideal S1x128x2048 .f32) (M : FVec Ideal S1x6x2048 .f32)
    (L : Fin 8 → Fin 8 → IVec S128x128 32) :
    mixed X W SH M L = addf (shapeCast S128x2048 X shapeCasts_S1x128x2048_S128x2048) (mulf (broadcastTo S128x2048 (extractStridedSlice S1x2048 ![5, 0]
      (shapeCast S6x2048 M shapeCasts_S1x6x2048_S6x2048) slices_S6x2048_o5_0_S1x2048) broadcasts_S1x2048_S128x2048)
      (concatenate S128x2048 1 [⟨S128x128, pieces W SH L 0⟩, ⟨S128x128, pieces W SH L 1⟩, ⟨S128x128, pieces W SH L 2⟩, ⟨S128x128, pieces W SH L 3⟩, ⟨S128x128, pieces W SH L 4⟩, ⟨S128x128, pieces W SH L 5⟩, ⟨S128x128, pieces W SH L 6⟩, ⟨S128x128, pieces W SH L 7⟩, ⟨S128x128, pieces W SH L 8⟩, ⟨S128x128, pieces W SH L 9⟩, ⟨S128x128, pieces W SH L 10⟩, ⟨S128x128, pieces W SH L 11⟩, ⟨S128x128, pieces W SH L 12⟩, ⟨S128x128, pieces W SH L 13⟩, ⟨S128x128, pieces W SH L 14⟩, ⟨S128x128, pieces W SH L 15⟩]
        concatenates_S128x128_S128x128_S128x128_S128x128_S128x128_S128x128_S128x128_S128x128_S128x128_S128x128_S128x128_S128x128_S128x128_S128x128_S128x128_S128x128_S128x2048_d1)) := rfl

/-- The mixed row block at row `r`, column `128 n + q`. -/
theorem mixed_at (X : FVec Ideal S1x128x2048 .f32) (W : FVec Ideal S1x128x8 .f32) (SH : FVec Ideal S1x128x2048 .f32) (M : FVec Ideal S1x6x2048 .f32)
    (L : Fin 8 → Fin 8 → IVec S128x128 32) (n : Fin 16) (r q : Fin 128) :
    mixed X W SH M L (ix2 r ⟨128 * n.val + q.val, by omega⟩)
      = X (ix3 0 r ⟨128 * n.val + q.val, by omega⟩) + M (ix3 0 5 ⟨128 * n.val + q.val, by omega⟩) * col W SH L n r q := by
  rw [mixed_eq, gated, piece (pieces W SH L) _ n r q, pieces_at]

/-- The root-mean-square norm at the end of the body, at row `r`, column `q`. -/
theorem normed (A B : FVec Ideal S128x2048 .f32) (FW : FVec Ideal S1x2048 .f32) (r : Fin 128) (q : Fin 2048) :
    k0_pay1 A B FW (ix3 0 r q) = A (ix2 r q) * Ideal.rsqrt (Ideal.div (∑ k : Fin 2048, B (ix2 r k)) (Ideal.ofBits .f32 0x45000000#32)
        + Ideal.ofBits .f32 0x358637BD#32) * FW (ix2 0 q) := by
  pointwise [k0_pay1]

/-- The square the norm sums is the square of the mixed row block. -/
theorem square (X : FVec Ideal S1x128x2048 .f32) (W : FVec Ideal S1x128x8 .f32) (SH : FVec Ideal S1x128x2048 .f32) (M : FVec Ideal S1x6x2048 .f32)
    (L : Fin 8 → Fin 8 → IVec S128x128 32) :
    k0_pay84 (F := Ideal) (k0_pay2 (F := Ideal) W) (k0_pay11 (F := Ideal) (k0_pay2 (F := Ideal) W) (k0_pay7 (F := Ideal) (k0_pay2 (F := Ideal) W) (k0_pay4 (F := Ideal) W SH (L 0 0) (L 0 1)) (k0_pay6 (F := Ideal) (L 0 2)) (L 0 3) (L 0 4)) (k0_pay9 (F := Ideal) (L 0 5)) (L 0 6) (L 0 7)) (k0_pay12 (F := Ideal) (k0_pay2 (F := Ideal) W) (k0_pay8 (F := Ideal) (k0_pay2 (F := Ideal) W) (k0_pay5 (F := Ideal) W SH (L 0 0) (L 0 1)) (L 0 2) 4294901760#32 (L 0 3) (L 0 4)) (k0_pay10 (F := Ideal) (L 0 5)) (L 0 6) (L 0 7)) (k0_pay24 (F := Ideal) (k0_pay2 (F := Ideal) W) (k0_pay22 (F := Ideal) (k0_pay2 (F := Ideal) W) (k0_pay20 (F := Ideal) (k0_pay2 (F := Ideal) W) (k0_pay13 (F := Ideal) (k0_pay3 (F := Ideal) SH)) (k0_pay15 (F := Ideal) (L 1 0)) (k0_pay17 (F := Ideal) (k0_pay2 (F := Ideal) W)) (L 1 1) (L 1 2) (L 1 3)) (L 1 4) (L 1 5) (L 1 6)) (L 1 7)) (k0_pay25 (F := Ideal) (k0_pay2 (F := Ideal) W) (k0_pay21 (F := Ideal) (k0_pay2 (F := Ideal) W) (k0_pay18 (F := Ideal) (k0_pay2 (F := Ideal) W) (k0_pay14 (F := Ideal) (k0_pay3 (F := Ideal) SH)) (k0_pay16 (F := Ideal) (L 1 0)) (L 1 1) (L 1 2)) (k0_pay19 (F := Ideal) (L 1 3)) (L 1 4) (L 1 5)) (k0_pay23 (F := Ideal) (k0_pay2 (F := Ideal) W) (L 1 6)) (L 1 7)) (k0_pay30 (F := Ideal) (k0_pay2 (F := Ideal) W) (k0_pay28 (F := Ideal) (k0_pay2 (F := Ideal) W) (k0_pay26 (F := Ideal) (k0_pay2 (F := Ideal) W) (k0_pay3 (F := Ideal) SH) (L 2 0) (L 2 1)) (L 2 2) (L 2 3) (L 2 4)) (L 2 5) (L 2 6) (L 2 7)) (k0_pay31 (F := Ideal) (k0_pay2 (F := Ideal) W) (k0_pay29 (F := Ideal) (k0_pay2 (F := Ideal) W) (k0_pay27 (F := Ideal) (k0_pay2 (F := Ideal) W) (k0_pay3 (F := Ideal) SH) (L 2 0) (L 2 1)) (L 2 2) (L 2 3) (L 2 4)) (L 2 5) (L 2 6) (L 2 7)) (k0_pay41 (F := Ideal) (k0_pay2 (F := Ideal) W) (k0_pay37 (F := Ideal) (k0_pay2 (F := Ideal) W) (k0_pay34 (F := Ideal) (k0_pay2 (F := Ideal) W) (k0_pay32 (F := Ideal) (k0_pay3 (F := Ideal) SH)) (L 3 0) 16#32 (L 3 1) (L 3 2)) (k0_pay36 (F := Ideal) (L 3 3)) (L 3 4) (L 3 5)) (k0_pay39 (F := Ideal) (L 3 6)) (L 3 7)) (k0_pay42 (F := Ideal) (k0_pay2 (F := Ideal) W) (k0_pay38 (F := Ideal) (k0_pay2 (F := Ideal) W) (k0_pay35 (F := Ideal) (k0_pay2 (F := Ideal) W) (k0_pay33 (F := Ideal) (k0_pay3 (F := Ideal) SH)) (L 3 0) (L 3 1) (L 3 2)) (L 3 3) (L 3 4) (L 3 5)) (k0_pay40 (F := Ideal) (L 3 6)) (L 3 7)) (k0_pay53 (F := Ideal) (k0_pay2 (F := Ideal) W) (k0_pay47 (F := Ideal) (k0_pay2 (F := Ideal) W) (k0_pay43 (F := Ideal) (k0_pay2 (F := Ideal) W) (k0_pay3 (F := Ideal) SH) (L 4 0)) (k0_pay45 (F := Ideal) (L 4 1)) (L 4 2) (L 4 3)) (k0_pay50 (F := Ideal) (k0_pay2 (F := Ideal) W) (L 4 4)) (L 4 5) (L 4 6) (L 4 7)) (k0_pay55 (F := Ideal) (k0_pay51 (F := Ideal) (k0_pay2 (F := Ideal) W) (k0_pay48 (F := Ideal) (k0_pay2 (F := Ideal) W) (k0_pay44 (F := Ideal) (k0_pay2 (F := Ideal) W) (k0_pay3 (F := Ideal) SH) (L 4 0)) (k0_pay46 (F := Ideal) (L 4 1)) (L 4 2) (L 4 3)) (k0_pay49 (F := Ideal) (L 4 4)) (L 4 5) (L 4 6)) (k0_pay52 (F := Ideal) (L 4 7)) (k0_pay54 (F := Ideal) (k0_pay2 (F := Ideal) W))) (k0_pay61 (F := Ideal) (k0_pay2 (F := Ideal) W) (k0_pay59 (F := Ideal) (k0_pay2 (F := Ideal) W) (k0_pay57 (F := Ideal) (k0_pay2 (F := Ideal) W) (k0_pay3 (F := Ideal) SH) (L 5 0) (L 5 1) (L 5 2)) (L 5 3) (L 5 4) (L 5 5)) (L 5 6) (L 5 7)) (k0_pay62 (F := Ideal) (k0_pay2 (F := Ideal) W) (k0_pay60 (F := Ideal) (k0_pay2 (F := Ideal) W) (k0_pay56 (F := Ideal) (k0_pay2 (F := Ideal) W) (k0_pay3 (F := Ideal) SH) (L 5 0) (L 5 1)) (k0_pay58 (F := Ideal) (k0_pay2 (F := Ideal) W) (L 5 2)) (L 5 3) (L 5 4) (L 5 5)) (L 5 6) (L 5 7)) (k0_pay72 (F := Ideal) (k0_pay2 (F := Ideal) W) (k0_pay68 (F := Ideal) (k0_pay2 (F := Ideal) W) (k0_pay65 (F := Ideal) (k0_pay2 (F := Ideal) W) (k0_pay63 (F := Ideal) (k0_pay2 (F := Ideal) W) (k0_pay3 (F := Ideal) SH) (L 6 0)) (L 6 1) (L 6 2) (L 6 3)) (k0_pay67 (F := Ideal) (L 6 4)) (L 6 5) (L 6 6)) (k0_pay70 (F := Ideal) (L 6 7))) (k0_pay73 (F := Ideal) (k0_pay2 (F := Ideal) W) (k0_pay69 (F := Ideal) (k0_pay2 (F := Ideal) W) (k0_pay66 (F := Ideal) (k0_pay2 (F := Ideal) W) (k0_pay64 (F := Ideal) (k0_pay2 (F := Ideal) W) (k0_pay3 (F := Ideal) SH) (L 6 0)) (L 6 1) (L 6 2) (L 6 3)) (L 6 4) (L 6 5) (L 6 6)) (L 6 7) k0_pay71) (k0_pay78 (F := Ideal) (k0_pay2 (F := Ideal) W) (k0_pay74 (F := Ideal) (k0_pay2 (F := Ideal) W) (k0_pay3 (F := Ideal) SH) (L 7 0) (L 7 1)) (k0_pay76 (F := Ideal) (L 7 2)) (L 7 3) (L 7 4)) (k0_pay79 (F := Ideal) (k0_pay2 (F := Ideal) W) (k0_pay75 (F := Ideal) (k0_pay2 (F := Ideal) W) (k0_pay3 (F := Ideal) SH) (L 7 0) (L 7 1)) (k0_pay77 (F := Ideal) (L 7 2)) (L 7 3) (L 7 4)) (k0_pay80 (F := Ideal) (L 7 5)) (k0_pay81 (F := Ideal) (L 7 5)) (k0_pay82 (F := Ideal) (k0_pay2 (F := Ideal) W)) (L 7 6) (L 7 7) M X = mulf (mixed X W SH M L) (mixed X W SH M L) := rfl

end Cert.CombineIdeal.Value

end
-- ==== Proof.CombineBlocks.lean ====
module

public import proofs.«01_k».proof.Proof.CombineRows
public import proofs.«01_k».proof.Proof.Gen.CombineIdeal.Frame
public import Idealize.ShloMosaic.Lib.Pipeline.ValueKit
public import Idealize.ShloMosaic.Lib.WholeRead
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

variable (m : (ℓ : Loc nD τ sig) → Buf (Elt Ideal) ℓ)

/-- One entry of a routed expert's row, from the packed words: columns of the lower half of the row lie in the low halves. -/
def entry (Y : IVec S1050624x128 32) (k : Fin 8) (b : Fin 4) (s : Fin 4096) (c : Fin 2048) : EReal :=
  Ideal.ofBits .bf16 ((Y (ix2 ⟨((k.val * 4 + b.val) * 4096 + s.val) * 8 + c.val / 128 % 8, by omega⟩ ⟨c.val % 128, by omega⟩)).extractLsb'
    (c.val / 128 / 8 * 16) 16)

/-- The row before the final norm: the residual plus the modulated sum of the shared row and the weighted routed rows. -/
def row (X : FVec Ideal S4x4096x2048 .f32) (Y : IVec S1050624x128 32) (W : FVec Ideal S4x4096x8 .f32) (S : FVec Ideal S4x4096x2048 .f32)
    (M : FVec Ideal S8x6x2048 .f32) (b : Fin 4) (s : Fin 4096) (c : Fin 2048) : EReal :=
  X (ix3 b s c) + M (ix3 ⟨0 + b.val, by omega⟩ 5 c)
    * (S (ix3 b s c) + W (ix3 b s 0) * entry Y 0 b s c + W (ix3 b s 1) * entry Y 1 b s c + W (ix3 b s 2) * entry Y 2 b s c
      + W (ix3 b s 3) * entry Y 3 b s c + W (ix3 b s 4) * entry Y 4 b s c + W (ix3 b s 5) * entry Y 5 b s c
      + W (ix3 b s 6) * entry Y 6 b s c + W (ix3 b s 7) * entry Y 7 b s c)

/-- The final norm of the combined rows, as a function of the six arguments. -/
def G (X : FVec Ideal S4x4096x2048 .f32) (Y : IVec S1050624x128 32) (W : FVec Ideal S4x4096x8 .f32) (S : FVec Ideal S4x4096x2048 .f32)
    (M : FVec Ideal S8x6x2048 .f32) (F : FVec Ideal S2048 .f32) : FVec Ideal S4x4096x2048 .f32 :=
  fun i => row X Y W S M (i 0) (i 1) (i 2)
    * Ideal.rsqrt (Ideal.div (∑ k : Fin 2048, row X Y W S M (i 0) (i 1) k * row X Y W S M (i 0) (i 1) k) (Ideal.ofBits .f32 0x45000000#32)
        + Ideal.ofBits .f32 0x358637BD#32) * F (ix1 (i 2))

/-- The norm at batch `b`, position `s`, column `c`. -/
theorem G_at (X : FVec Ideal S4x4096x2048 .f32) (Y : IVec S1050624x128 32) (W : FVec Ideal S4x4096x8 .f32) (S : FVec Ideal S4x4096x2048 .f32)
    (M : FVec Ideal S8x6x2048 .f32) (F : FVec Ideal S2048 .f32) (b : Fin 4) (s : Fin 4096) (c : Fin 2048) :
    G X Y W S M F (ix3 b s c) = row X Y W S M b s c
      * Ideal.rsqrt (Ideal.div (∑ k : Fin 2048, row X Y W S M b s k * row X Y W S M b s k) (Ideal.ofBits .f32 0x45000000#32)
        + Ideal.ofBits .f32 0x358637BD#32) * F (ix1 c) := rfl

/-- Which block of each array grid point `t` works on. -/
theorem idx : ∀ t : Fin cfg0.N, win0_0.index t = ![t.val / 32, t.val % 32, 0] ∧ win0_1.index t = ![t.val / 32, t.val % 32, 0]
    ∧ win0_2.index t = ![t.val / 32, t.val % 32, 0] ∧ win0_3.index t = ![t.val / 32, 0, 0] ∧ win0_4.index t = ![0, 0]
    ∧ win0_5.index t = ![(0 * 4 + t.val / 32) * 32 + t.val % 32, 0] ∧ win0_6.index t = ![(1 * 4 + t.val / 32) * 32 + t.val % 32, 0]
    ∧ win0_7.index t = ![(2 * 4 + t.val / 32) * 32 + t.val % 32, 0] ∧ win0_8.index t = ![(3 * 4 + t.val / 32) * 32 + t.val % 32, 0]
    ∧ win0_9.index t = ![(4 * 4 + t.val / 32) * 32 + t.val % 32, 0] ∧ win0_10.index t = ![(5 * 4 + t.val / 32) * 32 + t.val % 32, 0]
    ∧ win0_11.index t = ![(6 * 4 + t.val / 32) * 32 + t.val % 32, 0] ∧ win0_12.index t = ![(7 * 4 + t.val / 32) * 32 + t.val % 32, 0]
    ∧ win0_13.index t = ![t.val / 32, t.val % 32, 0] :=
  (by decide +kernel : ∀ t : Fin grid0.N, _)

/-- The grid has 128 points. -/
theorem tlt (t : Fin cfg0.N) : t.val < 128 := lt_of_lt_of_eq t.isLt (by decide)

/-- The batch entry of a grid point. -/
def B (t : Fin cfg0.N) : Fin 4 := ⟨t.val / 32, by have := tlt t; omega⟩

/-- An array row from a block row and a row within the block. -/
def R (t : Fin cfg0.N) (r : Fin 128) : Fin 4096 := ⟨t.val % 32 * 128 + r.val, by omega⟩

/-- The residual's block, read in its array. -/
theorem x_at (c : Dev nD) (t : Fin cfg0.N) (r : Fin 128) (q : Fin 2048) :
    iblk m c 0 t (ix3 0 r q) = m ((c : Thread nD τ).loc main_arg0) (ix3 (B t) (R t r) q) := by
  unfold B R
  blk_point [iblk, V, idx t]

/-- The weights' block, read in its array. -/
theorem w_at (c : Dev nD) (t : Fin cfg0.N) (r : Fin 128) (q : Fin 8) :
    iblk m c 1 t (ix3 0 r q) = m ((c : Thread nD τ).loc main_arg2) (ix3 (B t) (R t r) q) := by
  unfold B R
  blk_point [iblk, V, idx t]

/-- The shared rows' block, read in its array. -/
theorem s_at (c : Dev nD) (t : Fin cfg0.N) (r : Fin 128) (q : Fin 2048) :
    iblk m c 2 t (ix3 0 r q) = m ((c : Thread nD τ).loc main_arg3) (ix3 (B t) (R t r) q) := by
  unfold B R
  blk_point [iblk, V, idx t]

/-- The modulation's block, read in its array. -/
theorem m_at (c : Dev nD) (t : Fin cfg0.N) (k : Fin 6) (q : Fin 2048) :
    iblk m c 3 t (ix3 0 k q) = m ((c : Thread nD τ).loc main_arg4) (ix3 ⟨0 + (B t).val, by have := (B t).isLt; omega⟩ k q) := by
  unfold B
  blk_point [iblk, V, idx t]

/-- The norm weight's block, read in the argument. -/
theorem f_at (c : Dev nD) (t : Fin cfg0.N) (q : Fin 2048) :
    iblk m c 4 t (ix2 0 q) = m ((c : Thread nD τ).loc main_arg5) (ix1 q) := by
  blk_point [iblk, V, idx t]

/-- Where a block's index sits in the result. -/
theorem emb_at (t : Fin cfg0.N) (r : Fin 128) (q : Fin 2048) : ((cfg0.win 13).blk t).view.emb (ix3 0 r q) = ix3 (B t) (R t r) q := by
  unfold B R
  blk_point [idx t]

/-- Every eighth row of a block of words, from row `a` on. -/
def strided (a : ℕ) (x : IVec S1024x128 32) : IVec S128x128 32 :=
  fun j => x (ix2 ⟨(a + 8 * (j 0).val) % 1024, Nat.mod_lt _ (by decide)⟩ (j 1))

/-- The blocks of words of the eight routed experts. -/
def packed (c : Dev nD) (t : Fin cfg0.N) : Fin 8 → IVec S1024x128 32 :=
  ![iblk m c 5 t, iblk m c 6 t, iblk m c 7 t, iblk m c 8 t, iblk m c 9 t, iblk m c 10 t, iblk m c 11 t, iblk m c 12 t]

/-- The blocks of words, read in their array. -/
theorem packed_at (c : Dev nD) (t : Fin cfg0.N) (k : Fin 8) (r : Fin 1024) (q : Fin 128) :
    packed m c t k (ix2 r q) = m ((c : Thread nD τ).loc main_arg1)
      (ix2 ⟨((k.val * 4 + t.val / 32) * 32 + t.val % 32) * 1024 + r.val, by have := tlt t; omega⟩ q) := by
  fin_cases k
  · show iblk m c 5 t (ix2 r q) = m ((c : Thread nD τ).loc main_arg1) (ix2 ⟨((0 * 4 + t.val / 32) * 32 + t.val % 32) * 1024 + r.val, by have := tlt t; omega⟩ q)
    blk_point [iblk, V, idx t]
  · show iblk m c 6 t (ix2 r q) = m ((c : Thread nD τ).loc main_arg1) (ix2 ⟨((1 * 4 + t.val / 32) * 32 + t.val % 32) * 1024 + r.val, by have := tlt t; omega⟩ q)
    blk_point [iblk, V, idx t]
  · show iblk m c 7 t (ix2 r q) = m ((c : Thread nD τ).loc main_arg1) (ix2 ⟨((2 * 4 + t.val / 32) * 32 + t.val % 32) * 1024 + r.val, by have := tlt t; omega⟩ q)
    blk_point [iblk, V, idx t]
  · show iblk m c 8 t (ix2 r q) = m ((c : Thread nD τ).loc main_arg1) (ix2 ⟨((3 * 4 + t.val / 32) * 32 + t.val % 32) * 1024 + r.val, by have := tlt t; omega⟩ q)
    blk_point [iblk, V, idx t]
  · show iblk m c 9 t (ix2 r q) = m ((c : Thread nD τ).loc main_arg1) (ix2 ⟨((4 * 4 + t.val / 32) * 32 + t.val % 32) * 1024 + r.val, by have := tlt t; omega⟩ q)
    blk_point [iblk, V, idx t]
  · show iblk m c 10 t (ix2 r q) = m ((c : Thread nD τ).loc main_arg1) (ix2 ⟨((5 * 4 + t.val / 32) * 32 + t.val % 32) * 1024 + r.val, by have := tlt t; omega⟩ q)
    blk_point [iblk, V, idx t]
  · show iblk m c 11 t (ix2 r q) = m ((c : Thread nD τ).loc main_arg1) (ix2 ⟨((6 * 4 + t.val / 32) * 32 + t.val % 32) * 1024 + r.val, by have := tlt t; omega⟩ q)
    blk_point [iblk, V, idx t]
  · show iblk m c 12 t (ix2 r q) = m ((c : Thread nD τ).loc main_arg1) (ix2 ⟨((7 * 4 + t.val / 32) * 32 + t.val % 32) * 1024 + r.val, by have := tlt t; omega⟩ q)
    blk_point [iblk, V, idx t]

/-- The words a grid point loads: group `a` of the columns of expert `k`. -/
def words (c : Dev nD) (t : Fin cfg0.N) : Fin 8 → Fin 8 → IVec S128x128 32 := fun a k => strided a.val (packed m c t k)

/-- The words a grid point loads, read in their array. -/
theorem words_at (c : Dev nD) (t : Fin cfg0.N) (q : Fin 2048) (k : Fin 8) (r : Fin 128) :
    Ideal.ofBits .bf16 ((words m c t ⟨q.val / 128 % 8, by omega⟩ k (ix2 r ⟨q.val % 128, by omega⟩)).extractLsb' (q.val / 128 / 8 * 16) 16)
      = entry (m ((c : Thread nD τ).loc main_arg1)) k (B t) (R t r) q := by
  have e : words m c t ⟨q.val / 128 % 8, by omega⟩ k (ix2 r ⟨q.val % 128, by omega⟩)
      = packed m c t k (ix2 ⟨(q.val / 128 % 8 + 8 * r.val) % 1024, Nat.mod_lt _ (by decide)⟩ ⟨q.val % 128, by omega⟩) := rfl
  rw [e, packed_at, entry]
  have ht := tlt t
  have f : ((k.val * 4 + t.val / 32) * 32 + t.val % 32) * 1024 + (q.val / 128 % 8 + 8 * r.val) % 1024
      = ((k.val * 4 + (B t).val) * 4096 + (R t r).val) * 8 + q.val / 128 % 8 := by
    simp only [B, R]
    omega
  simp only [f]

/-- The mixed row block, read in the arrays. -/
theorem row_at (c : Dev nD) (t : Fin cfg0.N) (r : Fin 128) (q : Fin 2048) :
    mixed (iblk m c 0 t) (iblk m c 1 t) (iblk m c 2 t) (iblk m c 3 t) (words m c t) (ix2 r q)
      = row (m ((c : Thread nD τ).loc main_arg0)) (m ((c : Thread nD τ).loc main_arg1)) (m ((c : Thread nD τ).loc main_arg2))
          (m ((c : Thread nD τ).loc main_arg3)) (m ((c : Thread nD τ).loc main_arg4)) (B t) (R t r) q := by
  have h := mixed_at (iblk m c 0 t) (iblk m c 1 t) (iblk m c 2 t) (iblk m c 3 t) (words m c t) ⟨q.val / 128, by omega⟩ r ⟨q.val % 128, by omega⟩
  have e : (⟨128 * (q.val / 128) + q.val % 128, by omega⟩ : Fin 2048) = q := Fin.ext (by simp only; omega)
  simp only [col, e, words_at, x_at, w_at, s_at, m_at] at h
  exact h

/-- A strided load from a whole buffer reads every eighth row. -/
theorem load_eq {sp : Space} {ms : Memref sig .tc sp S1024x128 .i32} (h : ms.IsWhole) (x : IVec S1024x128 32) (a : ℕ) (inb) :
    View.readAt (Elt Ideal) ms.view (⟨![a, 0], ![128, 128], ![8, 1], inb⟩ : LoadRect S1024x128) (h.unread x) = strided a x := by
  funext j
  rw [Memref.IsWhole.readAt_unread]
  unfold strided
  have h0 := LoadRect.coord_lt (⟨![a, 0], ![128, 128], ![8, 1], inb⟩ : LoadRect S1024x128) 0 (j 0).isLt
  change a + 8 * (j 0).val < 1024 at h0
  congr 1
  funext b
  match b with
  | ⟨0, _⟩ => exact Fin.ext (Nat.mod_eq_of_lt h0).symm
  | ⟨1, _⟩ =>
    refine Fin.ext ?_
    show 0 + 1 * (j 1).val = (j 1).val
    omega

/-- What the body stores, from its blocks, at row `r`, column `q`. -/
theorem body (X : FVec Ideal S1x128x2048 .f32) (W : FVec Ideal S1x128x8 .f32) (SH : FVec Ideal S1x128x2048 .f32) (M : FVec Ideal S1x6x2048 .f32)
    (L : Fin 8 → Fin 8 → IVec S128x128 32) (FW : FVec Ideal S1x2048 .f32) (r : Fin 128) (q : Fin 2048) :
    k0_pay1 (mixed X W SH M L) (mulf (mixed X W SH M L) (mixed X W SH M L)) FW (ix3 0 r q)
      = mixed X W SH M L (ix2 r q) * Ideal.rsqrt (Ideal.div (∑ k : Fin 2048, mixed X W SH M L (ix2 r k) * mixed X W SH M L (ix2 r k))
          (Ideal.ofBits .f32 0x45000000#32) + Ideal.ofBits .f32 0x358637BD#32) * FW (ix2 0 q) :=
  normed _ _ _ _ _

/-- What the body stores at an index of its block is `G` at the array index that it sits at. -/
theorem point (c : Dev nD) (t : Fin cfg0.N) (r : Fin 128) (q : Fin 2048) :
    k0_pay1 (mixed (iblk m c 0 t) (iblk m c 1 t) (iblk m c 2 t) (iblk m c 3 t) (words m c t))
        (mulf (mixed (iblk m c 0 t) (iblk m c 1 t) (iblk m c 2 t) (iblk m c 3 t) (words m c t))
          (mixed (iblk m c 0 t) (iblk m c 1 t) (iblk m c 2 t) (iblk m c 3 t) (words m c t))) (iblk m c 4 t) (ix3 0 r q)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (ix3 (B t) (R t r) q) := by
  rw [body, G_at]
  simp only [row_at, f_at]

end Cert.CombineIdeal.Value

end
-- ==== Proof.CombineHalves.lean ====
module

public import proofs.«01_k».proof.Defs
public import proofs.«01_k».proof.Proof.CombineBlocks
public import proofs.«01_k».proof.Proof.Gen.CombineIdeal.Frame
public import proofs.«01_k».proof.Proof.Gen.CombineRefIdeal
public import Idealize.ShloMosaic.Lib.Pipeline.ValueKit
public import Idealize.ShloMosaic.Lib.WholeRead
public import Idealize.ShloMosaic.Lib.Pointwise
public import Idealize.ShloMosaic.Lib.BitcastConvert
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal

/-- A word at an index of the split array: bits `16 k` to `16 k + 15` of the word. -/
theorem narrow (x : IVec Cert.CombineRefIdeal.S8x4x4096x1024 32) (h : Cert.CombineRefIdeal.S8x4x4096x1024.SplitsWords 32 Cert.CombineRefIdeal.S8x4x4096x1024x2 16)
    (a : Fin 8) (b : Fin 4) (s : Fin 4096) (d : Fin 1024) (k : Fin 2) :
    Host.bitcastConvertNarrow Cert.CombineRefIdeal.S8x4x4096x1024x2 16 x h (ix5 a b s d k)
      = (x (ix4 a b s d)).extractLsb' (k.val * 16) 16 := by
  rw [Host.bitcastConvertNarrow_apply]
  have e : h.drop (ix5 a b s d k) = ix4 a b s d := by
    funext z
    fin_cases z <;> rfl
  rw [e]
  rfl

/-- The row with the eight weighted rows as one sum. -/
theorem row_sum (X : FVec Ideal S4x4096x2048 .f32) (Y : IVec S1050624x128 32) (W : FVec Ideal S4x4096x8 .f32) (S : FVec Ideal S4x4096x2048 .f32)
    (M : FVec Ideal S8x6x2048 .f32) (b : Fin 4) (s : Fin 4096) (c : Fin 2048) :
    row X Y W S M b s c = X (ix3 b s c) + M (ix3 ⟨b.val, by omega⟩ 5 c)
      * ((∑ k : Fin 8, entry Y k b s c * W (ix3 b s k)) + S (ix3 b s c)) := by
  have e : (⟨0 + b.val, by omega⟩ : Fin 8) = ⟨b.val, by omega⟩ := Fin.ext (Nat.zero_add _)
  unfold row
  rw [e, Fin.sum_univ_eight, add_comm _ (S _)]
  simp only [← add_assoc, mul_comm (entry _ _ _ _ _)]

/-- The value of a half word depends on the numbers of its row, lane and first bit only. -/
theorem half_eq (Y : IVec S1050624x128 32) (p q : Fin 1050624) (l r : Fin 128) (a b : Nat) (hp : p.val = q.val) (hl : l.val = r.val)
    (ha : a = b) : Ideal.ofBits .bf16 ((Y (ix2 p l)).extractLsb' a 16) = Ideal.ofBits .bf16 ((Y (ix2 q r)).extractLsb' b 16) := by
  obtain rfl := Fin.ext hp
  obtain rfl := Fin.ext hl
  obtain rfl := ha
  rfl

/-- In the lower half of the columns the entry is the low half of its word. -/
theorem entry_low (Y : IVec S1050624x128 32) (k : Fin 8) (b : Fin 4) (s : Fin 4096) (c : Fin 2048) (h : c.val < 1024)
    (p : Fin 1050624) (l : Fin 128) (hp : p.val = (k.val * 16384 + b.val * 4096 + s.val) * 8 + c.val / 128) (hl : l.val = c.val % 128) :
    Ideal.ofBits .bf16 ((Y (ix2 p l)).extractLsb' 0 16) = entry Y k b s c := by
  unfold entry
  refine half_eq Y _ _ _ _ _ _ ?_ ?_ ?_
  · rw [hp]
    show _ = ((k.val * 4 + b.val) * 4096 + s.val) * 8 + c.val / 128 % 8
    omega
  · exact hl
  · omega

/-- In the upper half of the columns the entry is the high half of its word. -/
theorem entry_high (Y : IVec S1050624x128 32) (k : Fin 8) (b : Fin 4) (s : Fin 4096) (c : Fin 2048) (h : ¬ c.val < 1024)
    (p : Fin 1050624) (l : Fin 128) (hp : p.val = (k.val * 16384 + b.val * 4096 + s.val) * 8 + (c.val - 1024) / 128)
    (hl : l.val = (c.val - 1024) % 128) :
    Ideal.ofBits .bf16 ((Y (ix2 p l)).extractLsb' 16 16) = entry Y k b s c := by
  unfold entry
  refine half_eq Y _ _ _ _ _ _ ?_ ?_ ?_
  · rw [hp]
    show _ = ((k.val * 4 + b.val) * 4096 + s.val) * 8 + c.val / 128 % 8
    omega
  · rw [hl]
    show _ = c.val % 128
    omega
  · omega

/-- The rows the reference unpacks, at an index. -/
theorem rows_at (Y : IVec S1050624x128 32) (h0 : _) (h1 : _) (h2 : _) (h3 : _) (h4 : _) (h5 : _) (h6 : _) (h7 : _) (h8 : _) :
    (concatenate Cert.CombineRefIdeal.S8x4x4096x2048 3
      [⟨Cert.CombineRefIdeal.S8x4x4096x1024, fun i => shapeCast Cert.CombineRefIdeal.main_v5.ty.shape
          (extractStridedSlice Cert.CombineRefIdeal.S8x4x4096x1024x1 ![0, 0, 0, 0, 0]
            (bitcastToFloat (F := Ideal) FTy.bf16
              (Host.bitcastConvertNarrow Cert.CombineRefIdeal.S8x4x4096x1024x2 16
                (fun i => shapeCast Cert.CombineRefIdeal.main_v2.ty.shape
                  (extractStridedSlice Cert.CombineRefIdeal.S131072x1024 ![0, 0]
                    (fun i => shapeCast Cert.CombineRefIdeal.main_v0.ty.shape Y h0 i) h1) h2 i) h3)) h4) h5 i⟩,
       ⟨Cert.CombineRefIdeal.S8x4x4096x1024, fun i => shapeCast Cert.CombineRefIdeal.main_v7.ty.shape
          (extractStridedSlice Cert.CombineRefIdeal.S8x4x4096x1024x1 ![0, 0, 0, 0, 1]
            (bitcastToFloat (F := Ideal) FTy.bf16
              (Host.bitcastConvertNarrow Cert.CombineRefIdeal.S8x4x4096x1024x2 16
                (fun i => shapeCast Cert.CombineRefIdeal.main_v2.ty.shape
                  (extractStridedSlice Cert.CombineRefIdeal.S131072x1024 ![0, 0]
                    (fun i => shapeCast Cert.CombineRefIdeal.main_v0.ty.shape Y h0 i) h1) h2 i) h3)) h6) h7 i⟩] h8 : FVec Ideal Cert.CombineRefIdeal.S8x4x4096x2048 .bf16)
      = fun i => entry Y (i 0) (i 1) (i 2) (i 3) := by
  funext i
  idx_vars i
  pointwise []
  by_cases h : i3.val < 1024
  · exact (dif_pos h).trans (entry_low Y i0 i1 i2 i3 h _ _ rfl rfl)
  · exact (dif_neg h).trans (entry_high Y i0 i1 i2 i3 h _ _ rfl rfl)

end Cert.CombineIdeal.Value

end
-- ==== Proof.Combine.lean ====
module

public import proofs.«01_k».proof.Defs
public import proofs.«01_k».proof.Proof.CombineHalves
public import proofs.«01_k».proof.Proof.Gen.CombineIdeal.Frame
public import proofs.«01_k».proof.Proof.Gen.CombineRefIdeal
public import Idealize.ShloMosaic.Lib.Pipeline.ValueKit
public import Idealize.ShloMosaic.Lib.WholeRead
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CombineIdeal.Value
open Cert.CombineIdeal Cert.CombineIdeal.Gen

variable (m : (ℓ : Loc nD τ sig) → Buf (Elt Ideal) ℓ)

set_option maxHeartbeats 4000000 in
/-- The result array after the run is `G` of the arguments. -/
theorem final (c : Dev nD) : (dats m 0 c).arrAt 13 (cfgs 0).N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 13 _ (by decide +kernel) fun t _ y => ?_
  change S1x128x2048.Idx at y
  obtain ⟨u, r, q, rfl⟩ : ∃ (u : Fin 1) (r : Fin 128) (q : Fin 2048), y = ix3 u r q := ⟨y 0, y 1, y 2, by funext a; fin_cases a <;> rfl⟩
  obtain rfl : u = 0 := Subsingleton.elim _ _
  rw [after0_13]
  unfold outsAt0
  frame_out
  simp only [load_eq]
  have p := point m c t r q
  rw [← square] at p
  refine Eq.trans ?_ (p.trans (congrArg _ (emb_at t r q).symm))
  rfl

end Cert.CombineIdeal.Value

set_option maxHeartbeats 2000000 in
/-- The combine call computes the reference's final norm of the combined rows. -/
theorem Cert.Proof.algebraic_combine : Cert.algebraic_CombineIdeal_CombineRefIdeal := by
  pair_intro
  · run_from Cert.CombineIdeal.Gen.run_main m g
  · hlo_run
    rw [Cert.CombineIdeal.Value.final m c]
    have words : m' ((c.tc : Thread Cert.CombineRefIdeal.nD Cert.CombineRefIdeal.τ).loc Cert.CombineRefIdeal.main_arg1)
        = m ((c.tc : Thread Cert.CombineIdeal.nD Cert.CombineIdeal.τ).loc Cert.CombineIdeal.main_arg1) := (hagree c).2.1
    erw [Cert.CombineIdeal.Value.rows_at]
    rw [words]
    funext i
    idx_vars i
    rw [Cert.CombineIdeal.Value.G_at]
    simp only [Cert.CombineIdeal.Value.row_sum]
    pointwise []

end
-- ==== Proof.lean ====
module

public import proofs.«01_k».proof.Defs
public import proofs.«01_k».proof.Proof.Gen.InQkv.Frame
public import proofs.«01_k».proof.Proof.Gen.InQkvIdeal.Frame
public import proofs.«01_k».proof.Proof.Gen.InQkvRefIdeal
public import proofs.«01_k».proof.Proof.Gen.InAb.Frame
public import proofs.«01_k».proof.Proof.Gen.InAbIdeal.Frame
public import proofs.«01_k».proof.Proof.Gen.InAbRefIdeal
public import proofs.«01_k».proof.Proof.Gen.InZ.Frame
public import proofs.«01_k».proof.Proof.Gen.InZIdeal.Frame
public import proofs.«01_k».proof.Proof.Gen.InZRefIdeal
public import proofs.«01_k».proof.Proof.Gen.InConv.Frame
public import proofs.«01_k».proof.Proof.Gen.InConvIdeal.Frame
public import proofs.«01_k».proof.Proof.Gen.InConvRefIdeal
public import proofs.«01_k».proof.Proof.Gen.InGate.Frame
public import proofs.«01_k».proof.Proof.Gen.InGateIdeal.Frame
public import proofs.«01_k».proof.Proof.Gen.InGateRefIdeal
public import proofs.«01_k».proof.Proof.Gen.CtxQkv.Frame
public import proofs.«01_k».proof.Proof.Gen.CtxQkvIdeal.Frame
public import proofs.«01_k».proof.Proof.Gen.CtxQkvRefIdeal
public import proofs.«01_k».proof.Proof.Gen.CtxAb.Frame
public import proofs.«01_k».proof.Proof.Gen.CtxAbIdeal.Frame
public import proofs.«01_k».proof.Proof.Gen.CtxAbRefIdeal
public import proofs.«01_k».proof.Proof.Gen.ProjA.Frame
public import proofs.«01_k».proof.Proof.Gen.ProjAIdeal.Frame
public import proofs.«01_k».proof.Proof.Gen.ProjARefIdeal
public import proofs.«01_k».proof.Proof.Gen.ProjB.Frame
public import proofs.«01_k».proof.Proof.Gen.ProjBIdeal.Frame
public import proofs.«01_k».proof.Proof.Gen.ProjBRefIdeal
public import proofs.«01_k».proof.Proof.Gen.Mixout.Frame
public import proofs.«01_k».proof.Proof.Gen.MixoutIdeal.Frame
public import proofs.«01_k».proof.Proof.Gen.MixoutRefIdeal
public import proofs.«01_k».proof.Proof.Gen.Shared.Frame
public import proofs.«01_k».proof.Proof.Gen.SharedIdeal.Frame
public import proofs.«01_k».proof.Proof.Gen.SharedRefIdeal
public import proofs.«01_k».proof.Proof.Gen.Ada.Frame
public import proofs.«01_k».proof.Proof.Gen.AdaIdeal.Frame
public import proofs.«01_k».proof.Proof.Gen.AdaRefIdeal
public import proofs.«01_k».proof.Proof.Gen.Norm.Frame
public import proofs.«01_k».proof.Proof.Gen.NormIdeal.Frame
public import proofs.«01_k».proof.Proof.Gen.NormRefIdeal
public import proofs.«01_k».proof.Proof.Gen.CtxNorm.Frame
public import proofs.«01_k».proof.Proof.Gen.CtxNormIdeal.Frame
public import proofs.«01_k».proof.Proof.Gen.CtxNormRefIdeal
public import proofs.«01_k».proof.Proof.Gen.Conv.Frame
public import proofs.«01_k».proof.Proof.Gen.ConvIdeal.Frame
public import proofs.«01_k».proof.Proof.Gen.ConvRefIdeal
public import proofs.«01_k».proof.Proof.Gen.Combine.Frame
public import proofs.«01_k».proof.Proof.Gen.CombineIdeal.Frame
public import proofs.«01_k».proof.Proof.Gen.CombineRefIdeal
public import proofs.«01_k».proof.Proof.Gen.Gdn
public import proofs.«01_k».proof.Proof.GdnFrame
public import proofs.«01_k».proof.Proof.Gen.GdnIdeal
public import proofs.«01_k».proof.Proof.GdnIdealFrame
public import proofs.«01_k».proof.Proof.InQkv
public import proofs.«01_k».proof.Proof.InAb
public import proofs.«01_k».proof.Proof.InZ
public import proofs.«01_k».proof.Proof.InConv
public import proofs.«01_k».proof.Proof.InGate
public import proofs.«01_k».proof.Proof.CtxQkv
public import proofs.«01_k».proof.Proof.CtxAb
public import proofs.«01_k».proof.Proof.ProjA
public import proofs.«01_k».proof.Proof.ProjB
public import proofs.«01_k».proof.Proof.Mixout
public import proofs.«01_k».proof.Proof.Shared
public import proofs.«01_k».proof.Proof.Ada
public import proofs.«01_k».proof.Proof.Norm
public import proofs.«01_k».proof.Proof.CtxNorm
public import proofs.«01_k».proof.Proof.Conv
public import proofs.«01_k».proof.Proof.Combine
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference `InQkvRefIdeal` runs to its end and leaves its arguments as they were. -/
theorem frame_InQkvRefIdeal : Cert.quiescent_InQkvRefIdeal := by
  intro m ρ _
  hlo_run
  · intro c; simp
  · exact sem_eq_zero_of_no_sems (by decide) _

/-- The reference `InAbRefIdeal` runs to its end and leaves its arguments as they were. -/
theorem frame_InAbRefIdeal : Cert.quiescent_InAbRefIdeal := by
  intro m ρ _
  hlo_run
  · intro c; simp
  · exact sem_eq_zero_of_no_sems (by decide) _

/-- The reference `InZRefIdeal` runs to its end and leaves its arguments as they were. -/
theorem frame_InZRefIdeal : Cert.quiescent_InZRefIdeal := by
  intro m ρ _
  hlo_run
  · intro c; simp
  · exact sem_eq_zero_of_no_sems (by decide) _

/-- The reference `InConvRefIdeal` runs to its end and leaves its arguments as they were. -/
theorem frame_InConvRefIdeal : Cert.quiescent_InConvRefIdeal := by
  intro m ρ _
  hlo_run
  · intro c; simp
  · exact sem_eq_zero_of_no_sems (by decide) _

/-- The reference `InGateRefIdeal` runs to its end and leaves its arguments as they were. -/
theorem frame_InGateRefIdeal : Cert.quiescent_InGateRefIdeal := by
  intro m ρ _
  hlo_run
  · intro c; simp
  · exact sem_eq_zero_of_no_sems (by decide) _

/-- The reference `CtxQkvRefIdeal` runs to its end and leaves its arguments as they were. -/
theorem frame_CtxQkvRefIdeal : Cert.quiescent_CtxQkvRefIdeal := by
  intro m ρ _
  hlo_run
  · intro c; simp
  · exact sem_eq_zero_of_no_sems (by decide) _

/-- The reference `CtxAbRefIdeal` runs to its end and leaves its arguments as they were. -/
theorem frame_CtxAbRefIdeal : Cert.quiescent_CtxAbRefIdeal := by
  intro m ρ _
  hlo_run
  · intro c; simp
  · exact sem_eq_zero_of_no_sems (by decide) _

/-- The reference `ProjARefIdeal` runs to its end and leaves its arguments as they were. -/
theorem frame_ProjARefIdeal : Cert.quiescent_ProjARefIdeal := by
  intro m ρ _
  hlo_run
  · intro c; simp
  · exact sem_eq_zero_of_no_sems (by decide) _

/-- The reference `ProjBRefIdeal` runs to its end and leaves its arguments as they were. -/
theorem frame_ProjBRefIdeal : Cert.quiescent_ProjBRefIdeal := by
  intro m ρ _
  hlo_run
  · intro c; simp
  · exact sem_eq_zero_of_no_sems (by decide) _

/-- The reference `MixoutRefIdeal` runs to its end and leaves its arguments as they were. -/
theorem frame_MixoutRefIdeal : Cert.quiescent_MixoutRefIdeal := by
  intro m ρ _
  hlo_run
  · intro c; simp
  · exact sem_eq_zero_of_no_sems (by decide) _

/-- The reference `SharedRefIdeal` runs to its end and leaves its arguments as they were. -/
theorem frame_SharedRefIdeal : Cert.quiescent_SharedRefIdeal := by
  intro m ρ _
  hlo_run
  · intro c; simp
  · exact sem_eq_zero_of_no_sems (by decide) _

/-- The reference `AdaRefIdeal` runs to its end and leaves its arguments as they were. -/
theorem frame_AdaRefIdeal : Cert.quiescent_AdaRefIdeal := by
  intro m ρ _
  hlo_run
  · intro c; simp
  · exact sem_eq_zero_of_no_sems (by decide) _

/-- The reference `NormRefIdeal` runs to its end and leaves its arguments as they were. -/
theorem frame_NormRefIdeal : Cert.quiescent_NormRefIdeal := by
  intro m ρ _
  hlo_run
  · intro c; simp
  · exact sem_eq_zero_of_no_sems (by decide) _

/-- The reference `CtxNormRefIdeal` runs to its end and leaves its arguments as they were. -/
theorem frame_CtxNormRefIdeal : Cert.quiescent_CtxNormRefIdeal := by
  intro m ρ _
  hlo_run
  · intro c; simp
  · exact sem_eq_zero_of_no_sems (by decide) _

/-- The reference `ConvRefIdeal` runs to its end and leaves its arguments as they were. -/
theorem frame_ConvRefIdeal : Cert.quiescent_ConvRefIdeal := by
  intro m ρ _
  hlo_run
  · intro c; simp
  · exact sem_eq_zero_of_no_sems (by decide) _

/-- The reference `CombineRefIdeal` runs to its end and leaves its arguments as they were. -/
theorem frame_CombineRefIdeal : Cert.quiescent_CombineRefIdeal := by
  intro m ρ _
  hlo_run
  · intro c; simp
  · exact sem_eq_zero_of_no_sems (by decide) _

/-- Everything that is claimed. -/
theorem claim : Cert.Claim := ⟨Cert.InQkv.Gen.facts, Cert.InQkvIdeal.Gen.facts, Cert.InQkvRefIdeal.Gen.facts, Cert.InAb.Gen.facts, Cert.InAbIdeal.Gen.facts, Cert.InAbRefIdeal.Gen.facts, Cert.InZ.Gen.facts, Cert.InZIdeal.Gen.facts, Cert.InZRefIdeal.Gen.facts, Cert.InConv.Gen.facts, Cert.InConvIdeal.Gen.facts, Cert.InConvRefIdeal.Gen.facts, Cert.InGate.Gen.facts, Cert.InGateIdeal.Gen.facts, Cert.InGateRefIdeal.Gen.facts, Cert.CtxQkv.Gen.facts, Cert.CtxQkvIdeal.Gen.facts, Cert.CtxQkvRefIdeal.Gen.facts, Cert.CtxAb.Gen.facts, Cert.CtxAbIdeal.Gen.facts, Cert.CtxAbRefIdeal.Gen.facts, Cert.ProjA.Gen.facts, Cert.ProjAIdeal.Gen.facts, Cert.ProjARefIdeal.Gen.facts, Cert.ProjB.Gen.facts, Cert.ProjBIdeal.Gen.facts, Cert.ProjBRefIdeal.Gen.facts, Cert.Mixout.Gen.facts, Cert.MixoutIdeal.Gen.facts, Cert.MixoutRefIdeal.Gen.facts, Cert.Shared.Gen.facts, Cert.SharedIdeal.Gen.facts, Cert.SharedRefIdeal.Gen.facts, Cert.Ada.Gen.facts, Cert.AdaIdeal.Gen.facts, Cert.AdaRefIdeal.Gen.facts, Cert.Norm.Gen.facts, Cert.NormIdeal.Gen.facts, Cert.NormRefIdeal.Gen.facts, Cert.CtxNorm.Gen.facts, Cert.CtxNormIdeal.Gen.facts, Cert.CtxNormRefIdeal.Gen.facts, Cert.Conv.Gen.facts, Cert.ConvIdeal.Gen.facts, Cert.ConvRefIdeal.Gen.facts, Cert.Combine.Gen.facts, Cert.CombineIdeal.Gen.facts, Cert.CombineRefIdeal.Gen.facts, Cert.Gdn.Gen.facts, Cert.GdnIdeal.Gen.facts,
  fun m ρ _ => Cert.InQkv.Gen.frame m ρ,
  fun m ρ _ => Cert.InQkvIdeal.Gen.frame m ρ,
  frame_InQkvRefIdeal,
  fun m ρ _ => Cert.InAb.Gen.frame m ρ,
  fun m ρ _ => Cert.InAbIdeal.Gen.frame m ρ,
  frame_InAbRefIdeal,
  fun m ρ _ => Cert.InZ.Gen.frame m ρ,
  fun m ρ _ => Cert.InZIdeal.Gen.frame m ρ,
  frame_InZRefIdeal,
  fun m ρ _ => Cert.InConv.Gen.frame m ρ,
  fun m ρ _ => Cert.InConvIdeal.Gen.frame m ρ,
  frame_InConvRefIdeal,
  fun m ρ _ => Cert.InGate.Gen.frame m ρ,
  fun m ρ _ => Cert.InGateIdeal.Gen.frame m ρ,
  frame_InGateRefIdeal,
  fun m ρ _ => Cert.CtxQkv.Gen.frame m ρ,
  fun m ρ _ => Cert.CtxQkvIdeal.Gen.frame m ρ,
  frame_CtxQkvRefIdeal,
  fun m ρ _ => Cert.CtxAb.Gen.frame m ρ,
  fun m ρ _ => Cert.CtxAbIdeal.Gen.frame m ρ,
  frame_CtxAbRefIdeal,
  fun m ρ _ => Cert.ProjA.Gen.frame m ρ,
  fun m ρ _ => Cert.ProjAIdeal.Gen.frame m ρ,
  frame_ProjARefIdeal,
  fun m ρ _ => Cert.ProjB.Gen.frame m ρ,
  fun m ρ _ => Cert.ProjBIdeal.Gen.frame m ρ,
  frame_ProjBRefIdeal,
  fun m ρ _ => Cert.Mixout.Gen.frame m ρ,
  fun m ρ _ => Cert.MixoutIdeal.Gen.frame m ρ,
  frame_MixoutRefIdeal,
  fun m ρ _ => Cert.Shared.Gen.frame m ρ,
  fun m ρ _ => Cert.SharedIdeal.Gen.frame m ρ,
  frame_SharedRefIdeal,
  fun m ρ _ => Cert.Ada.Gen.frame m ρ,
  fun m ρ _ => Cert.AdaIdeal.Gen.frame m ρ,
  frame_AdaRefIdeal,
  fun m ρ _ => Cert.Norm.Gen.frame m ρ,
  fun m ρ _ => Cert.NormIdeal.Gen.frame m ρ,
  frame_NormRefIdeal,
  fun m ρ _ => Cert.CtxNorm.Gen.frame m ρ,
  fun m ρ _ => Cert.CtxNormIdeal.Gen.frame m ρ,
  frame_CtxNormRefIdeal,
  fun m ρ _ => Cert.Conv.Gen.frame m ρ,
  fun m ρ _ => Cert.ConvIdeal.Gen.frame m ρ,
  frame_ConvRefIdeal,
  fun m ρ _ => Cert.Combine.Gen.frame m ρ,
  fun m ρ _ => Cert.CombineIdeal.Gen.frame m ρ,
  frame_CombineRefIdeal,
  fun m ρ _ => Cert.Gdn.Scan.frame_all m ρ,
  fun m ρ _ => Cert.GdnIdeal.Scan.frame_all m ρ,
  trivial,
  algebraic_in_qkv,
  trivial,
  algebraic_in_ab,
  trivial,
  algebraic_in_z,
  trivial,
  algebraic_in_conv,
  trivial,
  algebraic_in_gate,
  trivial,
  algebraic_ctx_qkv,
  trivial,
  algebraic_ctx_ab,
  trivial,
  algebraic_proj_a,
  trivial,
  algebraic_proj_b,
  trivial,
  algebraic_mixout,
  trivial,
  algebraic_shared,
  trivial,
  algebraic_ada,
  trivial,
  algebraic_norm,
  trivial,
  algebraic_ctx_norm,
  trivial,
  algebraic_conv,
  trivial,
  algebraic_combine,
  trivial⟩

end Cert.Proof

end
